-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![64, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![64, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S64x1024 : Shape := ⟨2, ![64, 1024]⟩
abbrev S3x4x64x1024 : Shape := ⟨4, ![3, 4, 64, 1024]⟩
abbrev S3x4 : Shape := ⟨2, ![3, 4]⟩
abbrev S_ : Shape := ⟨0, ![]⟩
abbrev S1x1 : Shape := ⟨2, ![1, 1]⟩
abbrev S1x1x64x1024 : Shape := ⟨4, ![1, 1, 64, 1024]⟩

abbrev nBuf : Space → Nat
  | .hbm => 8
  | .vmem => 10
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S64x1024, .f32⟩
  | .local _ .vmem, ⟨9, _⟩ => ⟨S3x4x64x1024, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v24 : BitVec 32 := Scalar.xori v2 c1_i32_18
  let c1_i32_25 : BitVec 32 := 1#32
  let v25 : BitVec 32 := Scalar.muli v24 c1_i32_25
  let v26 : BitVec 32 := Scalar.addi c0_i32_26 v25
  v26.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_56 : BitVec 32 := 2#32
  let v50 : BitVec 32 := Scalar.xori v2 c2_i32_56
  let c1_i32_63 : BitVec 32 := 1#32
  let v51 : BitVec 32 := Scalar.muli v50 c1_i32_63
  let v52 : BitVec 32 := Scalar.addi c0_i32_64 v51
  v52.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_93 : BitVec 32 := 4#32
  let v76 : BitVec 32 := Scalar.xori v2 c4_i32_93
  let c1_i32_100 : BitVec 32 := 1#32
  let v77 : BitVec 32 := Scalar.muli v76 c1_i32_100
  let v78 : BitVec 32 := Scalar.addi c0_i32_101 v77
  v78.toNat
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_130 : BitVec 32 := 8#32
  let v102 : BitVec 32 := Scalar.xori v2 c8_i32_130
  let c1_i32_136 : BitVec 32 := 1#32
  let v103 : BitVec 32 := Scalar.muli v102 c1_i32_136
  let v104 : BitVec 32 := Scalar.addi c0_i32_137 v103
  v104.toNat
def k0_dev9 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_177 : BitVec 32 := 1#32
  let v140 : BitVec 32 := Scalar.xori v2 c1_i32_177
  let c1_i32_184 : BitVec 32 := 1#32
  let v141 : BitVec 32 := Scalar.muli v140 c1_i32_184
  let v142 : BitVec 32 := Scalar.addi c0_i32_185 v141
  v142.toNat
def k0_dev10 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_215 : BitVec 32 := 2#32
  let v166 : BitVec 32 := Scalar.xori v2 c2_i32_215
  let c1_i32_222 : BitVec 32 := 1#32
  let v167 : BitVec 32 := Scalar.muli v166 c1_i32_222
  let v168 : BitVec 32 := Scalar.addi c0_i32_223 v167
  v168.toNat
def k0_dev11 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_253 : BitVec 32 := 4#32
  let v192 : BitVec 32 := Scalar.xori v2 c4_i32_253
  let c1_i32_260 : BitVec 32 := 1#32
  let v193 : BitVec 32 := Scalar.muli v192 c1_i32_260
  let v194 : BitVec 32 := Scalar.addi c0_i32_261 v193
  v194.toNat
def k0_dev12 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_291 : BitVec 32 := 8#32
  let v218 : BitVec 32 := Scalar.xori v2 c8_i32_291
  let c1_i32_298 : BitVec 32 := 1#32
  let v219 : BitVec 32 := Scalar.muli v218 c1_i32_298
  let v220 : BitVec 32 := Scalar.addi c0_i32_299 v219
  v220.toNat
def k0_dev13 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_340 : BitVec 32 := 1#32
  let v256 : BitVec 32 := Scalar.xori v2 c1_i32_340
  let c1_i32_347 : BitVec 32 := 1#32
  let v257 : BitVec 32 := Scalar.muli v256 c1_i32_347
  let v258 : BitVec 32 := Scalar.addi c0_i32_348 v257
  v258.toNat
def k0_dev14 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_378 : BitVec 32 := 2#32
  let v282 : BitVec 32 := Scalar.xori v2 c2_i32_378
  let c1_i32_385 : BitVec 32 := 1#32
  let v283 : BitVec 32 := Scalar.muli v282 c1_i32_385
  let v284 : BitVec 32 := Scalar.addi c0_i32_386 v283
  v284.toNat
def k0_dev15 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_416 : BitVec 32 := 4#32
  let v308 : BitVec 32 := Scalar.xori v2 c4_i32_416
  let c1_i32_423 : BitVec 32 := 1#32
  let v309 : BitVec 32 := Scalar.muli v308 c1_i32_423
  let v310 : BitVec 32 := Scalar.addi c0_i32_424 v309
  v310.toNat
def k0_dev16 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_454 : BitVec 32 := 8#32
  let v334 : BitVec 32 := Scalar.xori v2 c8_i32_454
  let c1_i32_461 : BitVec 32 := 1#32
  let v335 : BitVec 32 := Scalar.muli v334 c1_i32_461
  let v336 : BitVec 32 := Scalar.addi c0_i32_462 v335
  v336.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x8192 : Shape := ⟨2, ![64, 8192]⟩
abbrev S8192x1024 : Shape := ⟨2, ![8192, 1024]⟩
abbrev S1024x8192 : Shape := ⟨2, ![1024, 8192]⟩
abbrev S64x1024 : Shape := ⟨2, ![64, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x8192, .f32⟩
  | .hbm, ⟨5, _⟩ => ⟨S1024x8192, .f32⟩
  | .hbm, ⟨6, _⟩ => ⟨S1024x8192, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x8192, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S64x8192, .f32⟩
  | .hbm, ⟨17, _⟩ => ⟨S64x1024, .f32⟩
  | .hbm, ⟨18, _⟩ => ⟨S_, .f32⟩
  | .hbm, ⟨19, _⟩ => ⟨S64x1024, .f32⟩
  | .hbm, ⟨20, _⟩ => ⟨S64x1024, .f32⟩
  | .hbm, ⟨21, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Cube.lean ====
/-
# The exchange schedule on the hypercube of sixteen devices

Twelve stages, four for each of three layers: at stage `n` a device sends its accumulator to the device whose number
differs in bit `n % 4`, into that device's landing slot `n`. This module names the devices, the landing slots, the
semaphores, and states the one round every semaphore goes through: what each payment hands over and how much it is.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The ghost state: one round of duties named by `Fin 4` on every semaphore. -/
abbrev UB : Type := URounds (GSem nD τ sig) (Fin 4)
/-- The pipeline's own ghost state beside the exchange's. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The exchange's part of the ghost state. -/
abbrev ER : Emb UB (MT nD τ sig Unit (Elt F) ℕ UU ℕ) := embR

/-! ## Devices -/

set_option backward.proofsInPublic true in
/-- The device across bit `s`. -/
def partner (s : Fin 4) (c : Dev nD) : Dev nD :=
  ⟨c.val ^^^ 2 ^ s.val, by revert s c; decide⟩

/-- Crossing the same bit twice comes back. -/
theorem partner_partner (s : Fin 4) (c : Dev nD) : partner s (partner s c) = c := by revert s c; decide

set_option backward.proofsInPublic true in
/-- The bit stage `n` crosses. -/
def bit (n : Fin 12) : Fin 4 := ⟨n.val % 4, Nat.mod_lt _ (by decide)⟩

set_option backward.proofsInPublic true in
/-- The stage of layer `l` crossing bit `s`. -/
def ix (l : Fin 3) (s : Fin 4) : Fin 12 := ⟨4 * l.val + s.val, by have := l.isLt; have := s.isLt; omega⟩

/-- The device stage `n` exchanges with. -/
abbrev pn (n : Fin 12) (c : Dev nD) : Dev nD := partner (bit n) c

/-- The stage of layer `l` crossing bit `s` crosses bit `s`. -/
theorem bit_ix (l : Fin 3) (s : Fin 4) : bit (ix l s) = s := by revert l s; decide

/-- The twelve stages are three layers of four. -/
def stages : Fin 4 × Fin 3 ≃ Fin 12 where
  toFun p := ix p.2 p.1
  invFun n := (bit n, ⟨n.val / 4, by have := n.isLt; omega⟩)
  left_inv := by decide
  right_inv := by decide

/-! ## Buffers -/

/-- The accumulator. -/
abbrev aM : Memref sig .tc .vmem S64x1024 .f32 := Memref.whole cc0_scratch0
/-- The landing buffer: three layers of four slots. -/
abbrev rM : Memref sig .tc .vmem S3x4x64x1024 .f32 := Memref.whole cc0_scratch1

/-- Slot `n`'s place in the landing buffer. -/
abbrev slotOff (n : Fin 12) : Fin 4 → Nat := ![n.val / 4, n.val % 4, 0, 0]

/-- Every slot lies within the landing buffer. -/
theorem slotInb (n : Fin 12) : ∀ a, slotOff n a + S1x1x64x1024.size a ≤ S3x4x64x1024.size a := by
  revert n; decide

/-- Slot `n` as a rectangle of the landing buffer. -/
abbrev slotR (n : Fin 12) : Rect S3x4x64x1024 := Rect.unit (s := S3x4x64x1024) (slotOff n) S1x1x64x1024.size (slotInb n)

/-- Slot `n` as a matrix. -/
abbrev slotM (n : Fin 12) : Memref sig .tc .vmem S64x1024 .f32 :=
  (rM.slice (slotR n) (fun _ => rfl)).squeeze S64x1024 squeezes_S1x1x64x1024_S64x1024

/-- A slot seen as a matrix covers the elements of its rectangle. -/
theorem slot_set (n : Fin 12) : (slotM n).view.set = (rM.view.slice (slotR n)).set := Memref.set_view_squeeze _ _

/-- Two slots share no element. -/
theorem slot_disjoint (n n' : Fin 12) (h : n ≠ n') : Disjoint (slotM n).view.set (slotM n').view.set := by
  rw [slot_set, slot_set]
  by_cases h4 : n.val / 4 = n'.val / 4
  · have h' : n.val % 4 ≠ n'.val % 4 := fun e => h (Fin.ext (by omega))
    refine View.disjoint_slice_of_sep _ _ _ (1 : Fin 4) rfl rfl ?_
    show n.val % 4 + 1 ≤ n'.val % 4 ∨ n'.val % 4 + 1 ≤ n.val % 4
    omega
  · refine View.disjoint_slice_of_sep _ _ _ (0 : Fin 4) rfl rfl ?_
    show n.val / 4 + 1 ≤ n'.val / 4 ∨ n'.val / 4 + 1 ≤ n.val / 4
    omega

/-- The credit of one transfer: a slot's. -/
def N : ℕ := (slotM 0).view.dmaCredit
/-- A transfer's credit is positive. -/
theorem N_pos : 0 < N := View.dmaCredit_pos _ (by decide)
/-- Every slot has that credit, -/
theorem credit_slot (n : Fin 12) : (slotM n).view.dmaCredit = N := rfl
/-- and so has the accumulator. -/
theorem credit_acc : (aM : Memref sig .tc .vmem S64x1024 .f32).view.dmaCredit = N := rfl

/-! ## Semaphores -/

/-- The barrier semaphore. -/
abbrev barS : Sem sig := (SemArray.scalar (sig.barrier 0 rfl) : Sems sig S_).sem
set_option backward.proofsInPublic true in
/-- Stage `n`'s send semaphore. -/
def sendS (n : Fin 12) : DmaSem sig := ⟨8 + n.val, by have := n.isLt; show _ < 32; omega⟩
set_option backward.proofsInPublic true in
/-- Stage `n`'s receive semaphore. -/
def recvS (n : Fin 12) : DmaSem sig := ⟨20 + n.val, by have := n.isLt; show _ < 32; omega⟩

/-- The names of the send semaphores, then of the receive semaphores. -/
abbrev OwnIx : Type := Fin 12 ⊕ Fin 12
/-- The name of the barrier beside those. -/
abbrev CIx : Type := Unit ⊕ OwnIx

/-- The kernel's own semaphores: the twelve send, the twelve receive. -/
def osem : OwnIx → SemLoc sig
  | .inl n => .dma (sendS n)
  | .inr n => .dma (recvS n)
/-- All the semaphores of the exchange: the barrier and the own ones. -/
def csem : CIx → SemLoc sig
  | .inl _ => .reg barS
  | .inr k => osem k
/-- A semaphore of the exchange on its device. -/
abbrev kcell (ck : Dev nD × CIx) : GSem nD τ sig := ((ck.1 : Thread nD τ), csem ck.2)
/-- Device `c`'s barrier. -/
abbrev barCell (c : Dev nD) : GSem nD τ sig := ((c : Thread nD τ), .reg barS)
/-- Device `c`'s send semaphore of stage `n`. -/
abbrev sendCell (c : Dev nD) (n : Fin 12) : GSem nD τ sig := ((c : Thread nD τ), .dma (sendS n))
/-- Device `c`'s receive semaphore of stage `n`. -/
abbrev recvCell (c : Dev nD) (n : Fin 12) : GSem nD τ sig := ((c : Thread nD τ), .dma (recvS n))

set_option backward.proofsInPublic true in
/-- Which semaphore of the exchange a semaphore is, if any. -/
def which : SemLoc sig → Option CIx
  | .reg s => if s = barS then some (.inl ()) else none
  | .dma q =>
    if h : 8 ≤ q.val ∧ q.val < 20 then some (.inr (.inl ⟨q.val - 8, by omega⟩))
    else if h : 20 ≤ q.val ∧ q.val < 32 then some (.inr (.inr ⟨q.val - 20, by omega⟩))
    else none

/-- The barrier is recognised, -/
theorem which_bar : which (.reg barS) = some (.inl ()) := by dsimp only [which]; exact if_pos rfl
/-- so is every send semaphore, -/
theorem which_send (n : Fin 12) : which (.dma (sendS n)) = some (.inr (.inl n)) := by
  have := n.isLt
  dsimp only [which]
  rw [dif_pos ⟨by show 8 ≤ 8 + n.val; omega, by show 8 + n.val < 20; omega⟩]
  refine congrArg some (congrArg Sum.inr (congrArg Sum.inl (Fin.ext ?_)))
  show 8 + n.val - 8 = n.val
  omega
/-- and every receive semaphore; -/
theorem which_recv (n : Fin 12) : which (.dma (recvS n)) = some (.inr (.inr n)) := by
  have := n.isLt
  dsimp only [which]
  rw [dif_neg (fun h => by have h2 : 20 + n.val < 20 := h.2; omega),
    dif_pos ⟨by show 20 ≤ 20 + n.val; omega, by show 20 + n.val < 32; omega⟩]
  refine congrArg some (congrArg Sum.inr (congrArg Sum.inr (Fin.ext ?_)))
  show 20 + n.val - 20 = n.val
  omega
/-- so every semaphore of the exchange is. -/
theorem which_csem (k : CIx) : which (csem k) = some k := by
  rcases k with ⟨⟩ | n | n
  · exact which_bar
  · exact which_send n
  · exact which_recv n

/-- Different places of the exchange are different semaphores. -/
theorem kcell_inj : Function.Injective kcell := by
  rintro ⟨c, k⟩ ⟨c', k'⟩ h
  have h1 : c = c' := congrArg (fun x : GSem nD τ sig => x.1.1) h
  have h2 : csem k = csem k' := congrArg (fun x : GSem nD τ sig => x.2) h
  have h3 : k = k' := by
    have := congrArg which h2
    rw [which_csem, which_csem] at this
    exact Option.some.inj this
  rw [h1, h3]

/-! ## The schedule -/

/-- The matrices exchanged. -/
abbrev V (F : FTy → Type) : Type := Vec F S64x1024 .f32

/-- The accumulator on device `c` at contents `f`. -/
def accPts (c : Dev nD) (f : V F) : sProp 𝕄 :=
  aM.view.loc (c : Thread nD τ) ↦[aM.view.set]{fullShare} (f : Buf (Elt F) (aM.view.loc (c : Thread nD τ)))

/-- Slot `n` on device `c`, at some contents. -/
def slotAny (c : Dev nD) (n : Fin 12) : sProp 𝕄 :=
  iprop(∃ f : Buf (Elt F) ((slotM n).view.loc (c : Thread nD τ)), (slotM n).view.loc (c : Thread nD τ) ↦[(slotM n).view.set]{fullShare} f)

/-- Slot `n` on device `c`, holding the matrix `x`. -/
def slotHas (c : Dev nD) (n : Fin 12) (x : V F) : sProp 𝕄 := owns (c : Thread nD τ) (slotM n) fullShare x

/-- Holding the accumulator through its view is holding the whole buffer. -/
theorem accPts_eq (c : Dev nD) (f : V F) :
    (accPts c f : sProp 𝕄) = (((c : Thread nD τ).loc cc0_scratch0) ↦{fullShare} (f : Buf (Elt F) ((c : Thread nD τ).loc cc0_scratch0)) : sProp 𝕄) := by
  unfold accPts; rw [show aM.view.set = Finset.univ from View.set_whole _]

/-- What device `c` is handed when its partner across bit `s` has entered: that partner's three slots its transfers
    across `s` will land in. -/
def barPay (c : Dev nD) (s : Fin 4) : sProp 𝕄 := bigSep Finset.univ fun l : Fin 3 => slotAny (F := F) (partner s c) (ix l s)

/-- The accumulator can be handed over by a payment, -/
instance accPts_storable (c : Dev nD) (f : V F) : BI.Storable (upEmb : UEmb _ 𝕄) (accPts c f) := by unfold accPts; infer_instance
/-- so can a slot at any contents, -/
instance slotAny_storable (c : Dev nD) (n : Fin 12) : BI.Storable (upEmb : UEmb _ 𝕄) (slotAny (F := F) c n) := by unfold slotAny; infer_instance
/-- a slot holding a matrix, -/
instance slotHas_storable (c : Dev nD) (n : Fin 12) (x : V F) : BI.Storable (upEmb : UEmb _ 𝕄) (slotHas c n x) := by unfold slotHas; infer_instance
/-- and the slots of a partner. -/
instance barPay_storable (c : Dev nD) (s : Fin 4) : BI.Storable (upEmb : UEmb _ 𝕄) (barPay (F := F) c s) := by unfold barPay; infer_instance

variable (val : Fin 12 → Dev nD → V F)

/-- What payment `d` of the semaphore `k` of device `c` hands over: `val n c` is what device `c` sends at stage `n`. -/
def pay (c : Dev nD) (d : Fin 4) : Option CIx → sProp 𝕄
  | some (.inl _) => barPay (F := F) c d
  | some (.inr (.inl n)) => accPts c (val n c)
  | some (.inr (.inr n)) => slotHas c n (val n (pn n c))
  | none => iprop(emp)

/-- So every payment can be handed over, -/
instance pay_storable (c : Dev nD) (d : Fin 4) (k : Option CIx) : BI.Storable (upEmb : UEmb _ 𝕄) (pay val c d k) := by
  rcases k with _ | ⟨⟨⟩ | n | n⟩ <;> unfold pay <;> infer_instance

/-- The payments of a semaphore's one round. -/
def dutiesOf : Option CIx → Finset (Fin 4)
  | some (.inl _) => Finset.univ
  | some (.inr _) => {0}
  | none => ∅

/-- How much one payment is. -/
def amountOf' : Option CIx → ℕ
  | some (.inl _) => 1
  | some (.inr _) => N
  | none => 1

/-- One round: a barrier has four payments of one unit, one from each partner; a send or a receive semaphore one
    payment of a matrix's credit. -/
def Rd : Rounds.Schedule (GSem nD τ sig) (Fin 4) 𝕄 where
  duties g r := if r = 0 ∧ g.1.2 = .tc then dutiesOf (which g.2) else ∅
  unitless _ := False
  amount g _ _ := amountOf' (which g.2)
  payload g _ d := pay val g.1.1 d (which g.2)
  amount_pos g _ _ _ := by
    rcases which g.2 with _ | ⟨⟨⟩ | n⟩
    · exact Nat.one_pos
    · exact Nat.one_pos
    · exact N_pos

/-- every payment of the schedule among them. -/
instance Rd_payload_storable (g : GSem nD τ sig) (r : ℕ) (d : Fin 4) :
    BI.Storable (upEmb : UEmb _ 𝕄) ((Rd val).payload g r d) := by
  show BI.Storable upEmb (pay val g.1.1 d (which g.2)); infer_instance

section Tables
variable (c : Dev nD) (n : Fin 12) (d : Fin 4)

/-- The payments of a semaphore of the exchange, by its name: -/
theorem duties_cell (k : CIx) : (Rd val).duties (kcell (c, k)) 0 = dutiesOf (some k) := by
  dsimp only [Rd]
  rw [if_pos ⟨rfl, rfl⟩]; show dutiesOf (which (csem k)) = _; rw [which_csem]
/-- four at the barrier, -/
theorem duties_bar : (Rd val).duties (barCell c) 0 = Finset.univ := duties_cell val c (.inl ())
/-- one at a send semaphore, -/
theorem duties_send : (Rd val).duties (sendCell c n) 0 = {0} := duties_cell val c (.inr (.inl n))
/-- one at a receive semaphore, -/
theorem duties_recv : (Rd val).duties (recvCell c n) 0 = {0} := duties_cell val c (.inr (.inr n))
/-- and none after the first round. -/
theorem duties_later (g : GSem nD τ sig) : ∀ r, 1 ≤ r → (Rd val).duties g r = ∅ :=
  fun r hr => if_neg fun h => by omega

/-- A barrier payment is one unit, -/
theorem amount_bar : (Rd val).amount (barCell c) 0 d = 1 := by show amountOf' (which (.reg barS)) = 1; rw [which_bar]; rfl
/-- a send payment a matrix's credit, -/
theorem amount_send : (Rd val).amount (sendCell c n) 0 d = N := by show amountOf' _ = _; rw [which_send]; rfl
/-- and a receive payment likewise. -/
theorem amount_recv : (Rd val).amount (recvCell c n) 0 d = N := by show amountOf' _ = _; rw [which_recv]; rfl

/-- A barrier's round comes to four units, -/
theorem expect_bar : (Rd val).expect (barCell c) 0 = 4 := by
  unfold Schedule.expect Schedule.amountOf
  rw [duties_bar, Finset.sum_congr rfl fun d _ => amount_bar val c d]; rfl
/-- a send semaphore's to one matrix's credit, -/
theorem expect_send : (Rd val).expect (sendCell c n) 0 = N := by
  unfold Schedule.expect Schedule.amountOf; rw [duties_send, Finset.sum_singleton, amount_send]
/-- and a receive semaphore's likewise. -/
theorem expect_recv : (Rd val).expect (recvCell c n) 0 = N := by
  unfold Schedule.expect Schedule.amountOf; rw [duties_recv, Finset.sum_singleton, amount_recv]

/-- A barrier payment hands over the partner's three slots, -/
theorem payload_bar : (Rd val).payload (barCell c) 0 d = barPay (F := F) c d := by show pay val c d (which (.reg barS)) = _; rw [which_bar]; rfl
/-- a send payment gives the accumulator back, -/
theorem payload_send : (Rd val).payload (sendCell c n) 0 d = accPts c (val n c) := by show pay _ _ _ _ = _; rw [which_send]; rfl
/-- and a receive payment hands over the slot holding what the partner sent. -/
theorem payload_recv : (Rd val).payload (recvCell c n) 0 d = slotHas c n (val n (pn n c)) := by show pay _ _ _ _ = _; rw [which_recv]; rfl

/-- Everything the barrier's round hands over: the slots of all four partners. -/
theorem rest_bar : bigSep ((Rd val).duties (barCell c) 0 \ ∅) (fun d => (Rd val).payload (barCell c) 0 d)
    = bigSep Finset.univ fun s : Fin 4 => barPay (F := F) c s := by
  rw [Finset.sdiff_empty, duties_bar]; exact congrArg _ (funext fun s => payload_bar val c s)
/-- Everything a send semaphore's round hands over: the accumulator. -/
theorem rest_send : bigSep ((Rd val).duties (sendCell c n) 0 \ ∅) (fun d => (Rd val).payload (sendCell c n) 0 d) = accPts c (val n c) := by
  rw [Finset.sdiff_empty, duties_send, bigSep_singleton, payload_send]
/-- Everything a receive semaphore's round hands over: the slot with the partner's matrix. -/
theorem rest_recv : bigSep ((Rd val).duties (recvCell c n) 0 \ ∅) (fun d => (Rd val).payload (recvCell c n) 0 d)
    = slotHas c n (val n (pn n c)) := by
  rw [Finset.sdiff_empty, duties_recv, bigSep_singleton, payload_recv]

end Tables

/-! ## What a device owes; the order of waiting -/

/-- The transfers device `c` has still to make from stage `j` on. -/
def Ow (j : ℕ) (c : Dev nD) : CellTallies nD τ sig Unit :=
  ∑ n ∈ Finset.univ.filter (fun n : Fin 12 => j ≤ n.val), tallyAt (recvCell (pn n c) n) () N
/-- The barrier signals device `c` has still to send from bit `j` on. -/
def Ob (j : ℕ) (c : Dev nD) : CellTallies nD τ sig Unit :=
  ∑ s ∈ Finset.univ.filter (fun s : Fin 4 => j ≤ s.val), tallyAt (barCell (partner s c)) () 1
/-- What device `c` owes at the start. -/
def O₀ (c : Dev nD) : CellTallies nD τ sig Unit := Ow 0 c + Ob 0 c

/-- The indices from `n` on are `n` and those after it, -/
theorem filter_peel {k : ℕ} (n : Fin k) :
    Finset.univ.filter (fun i : Fin k => n.val ≤ i.val) = insert n (Finset.univ.filter (fun i : Fin k => n.val + 1 ≤ i.val)) := by
  ext i
  simp only [Finset.mem_filter, Finset.mem_univ, true_and, Finset.mem_insert, Fin.ext_iff]
  omega
/-- `n` not being one of those after it. -/
theorem filter_peel_not_mem {k : ℕ} (n : Fin k) : n ∉ Finset.univ.filter (fun i : Fin k => n.val + 1 ≤ i.val) := by
  simp

/-- The next transfer taken off what is owed. -/
theorem Ow_peel (n : Fin 12) (c : Dev nD) : Ow n.val c = Ow (n.val + 1) c + tallyAt (recvCell (pn n c) n) () N := by
  unfold Ow; rw [filter_peel, Finset.sum_insert (filter_peel_not_mem n), add_comm]
/-- The next signal taken off what is owed. -/
theorem Ob_peel (s : Fin 4) (c : Dev nD) : Ob s.val c = Ob (s.val + 1) c + tallyAt (barCell (partner s c)) () 1 := by
  unfold Ob; rw [filter_peel, Finset.sum_insert (filter_peel_not_mem s), add_comm]
/-- After the last stage no transfer is owed. -/
theorem Ow_end (c : Dev nD) : Ow 12 c = 0 := by
  unfold Ow; rw [Finset.filter_false_of_mem fun n _ => by have := n.isLt; omega, Finset.sum_empty]
/-- After the last bit no signal is owed. -/
theorem Ob_end (c : Dev nD) : Ob 4 c = 0 := by
  unfold Ob; rw [Finset.filter_false_of_mem fun n _ => by have := n.isLt; omega, Finset.sum_empty]

/-- The tensor cores' semaphores are the ones with a level. -/
def L (g : GSem nD τ sig) : Finset Unit := if g.1.2 = .tc then {()} else ∅
/-- The order of waiting: staging and send semaphores lowest, then the barrier, then the receive semaphores by stage. -/
def lvOf : Option CIx → ℕ
  | some (.inl _) => 1
  | some (.inr (.inl _)) => 0
  | some (.inr (.inr n)) => 2 + n.val
  | none => 0
/-- A semaphore's level. -/
def lv (g : GSem nD τ sig) (_ : Unit) : ℕ := lvOf (which g.2)

/-- A semaphore of no tensor core has none, -/
theorem L_of_ne (g : GSem nD τ sig) (h : g.1.2 ≠ .tc) : L g = ∅ := if_neg h
/-- one of a tensor core has. -/
theorem L_tc (c : Dev nD) (sm : SemLoc sig) : L ((c : Thread nD τ), sm) = {()} := if_pos rfl

/-- The barrier's level, -/
theorem lv_bar (c : Dev nD) (u : Unit) : lv (barCell c) u = 1 := by unfold lv; rw [which_bar]; rfl
/-- a send semaphore's, -/
theorem lv_send (c : Dev nD) (n : Fin 12) (u : Unit) : lv (sendCell c n) u = 0 := by unfold lv; rw [which_send]; rfl
/-- and a receive semaphore's. -/
theorem lv_recv (c : Dev nD) (n : Fin 12) (u : Unit) : lv (recvCell c n) u = 2 + n.val := by unfold lv; rw [which_recv]; rfl

/-- A sum of debts that is positive somewhere has a positive summand there. -/
theorem sum_tally_pos {I : Type} (S : Finset I) (T : I → CellTallies nD τ sig Unit) {g : GSem nD τ sig} {u : Unit}
    (h : 0 < (∑ i ∈ S, T i) g u) : ∃ i ∈ S, 0 < T i g u := by
  classical
  induction S using Finset.induction_on with
  | empty => rw [Finset.sum_empty] at h; exact absurd h (Nat.lt_irrefl 0)
  | insert i S hi ih =>
    rw [Finset.sum_insert hi, Pi.add_apply, Finsupp.add_apply] at h
    by_cases hT : 0 < T i g u
    · exact ⟨i, Finset.mem_insert_self _ _, hT⟩
    · obtain ⟨j, hj, hp⟩ := ih (by omega)
      exact ⟨j, Finset.mem_insert_of_mem hj, hp⟩

/-- A debt to one semaphore is positive at that semaphore only. -/
theorem tallyAt_pos_eq {g g' : GSem nD τ sig} {u : Unit} {k : ℕ} (h : 0 < tallyAt g' () k g u) : g = g' := by
  rw [tallyAt_apply] at h
  by_contra hn
  rw [if_neg fun h' => hn h'.1] at h
  exact absurd h (Nat.lt_irrefl 0)

/-- Owed transfers from stage `j` on are to receive semaphores of stage `j` or later. -/
theorem Ow_pos {j : ℕ} {c : Dev nD} {g : GSem nD τ sig} {u : Unit} (h : 0 < Ow j c g u) :
    ∃ n : Fin 12, j ≤ n.val ∧ g = recvCell (pn n c) n := by
  obtain ⟨n, hn, hp⟩ := sum_tally_pos _ _ h
  exact ⟨n, (Finset.mem_filter.mp hn).2, tallyAt_pos_eq hp⟩
/-- Owed signals are to the partners' barriers. -/
theorem Ob_pos {j : ℕ} {c : Dev nD} {g : GSem nD τ sig} {u : Unit} (h : 0 < Ob j c g u) :
    ∃ s : Fin 4, g = barCell (partner s c) := by
  obtain ⟨n, hn, hp⟩ := sum_tally_pos _ _ h
  exact ⟨n, tallyAt_pos_eq hp⟩

/-- A semaphore may be waited on while only transfers landing higher are owed. -/
theorem mayWait_of_lt (c : Dev nD) (sm : SemLoc sig) (j : ℕ) (h : lv ((c : Thread nD τ), sm) () < 2 + j) :
    (levAts L lv : sProp 𝕄) ⊢ MayWait (c : Thread nD τ) sm () (Ow j c) :=
  MayOwe.of_cut (L := L) (lev := lv) (lv ((c : Thread nD τ), sm) ())
    (fun p hp => by rw [Finset.mem_singleton.mp hp, L_tc]; exact Finset.mem_singleton_self _)
    (fun g u hg => by obtain ⟨n, _, rfl⟩ := Ow_pos hg; exact Finset.mem_singleton_self _)
    (fun p hp => by rw [Finset.mem_singleton.mp hp])
    (fun g u hg => by obtain ⟨n, hn, rfl⟩ := Ow_pos hg; rw [lv_recv]; omega)

/-- A staging semaphore may be waited on whatever of the exchange is owed. -/
theorem mayWait_stage (c : Dev nD) (q : DmaSem sig) (hq : which (.dma q) = none) (O : CellTallies nD τ sig Unit) (hO : O = O₀ c ∨ O = 0) :
    (levAts L lv : sProp 𝕄) ⊢ MayWait (c : Thread nD τ) (.dma q) () O := by
  rcases hO with rfl | rfl
  · have key : ∀ (g : GSem nD τ sig) (u : Unit), 0 < O₀ c g u → u ∈ L g ∧ 0 < lv g u := by
      intro g u hg
      unfold O₀ at hg
      rw [Pi.add_apply, Finsupp.add_apply] at hg
      by_cases h1 : 0 < Ow 0 c g u
      · obtain ⟨n, _, rfl⟩ := Ow_pos h1
        exact ⟨Finset.mem_singleton_self _, by rw [lv_recv]; omega⟩
      · obtain ⟨s, rfl⟩ := Ob_pos (show 0 < Ob 0 c g u by omega)
        exact ⟨Finset.mem_singleton_self _, by rw [lv_bar]; omega⟩
    exact MayOwe.of_cut (L := L) (lev := lv) 0
      (fun p hp => by rw [Finset.mem_singleton.mp hp, L_tc]; exact Finset.mem_singleton_self _)
      (fun g u hg => (key g u hg).1)
      (fun p hp => by rw [Finset.mem_singleton.mp hp]; show lvOf (which (.dma q)) ≤ 0; rw [hq]; exact le_rfl)
      (fun g u hg => (key g u hg).2)
  · rw [MayWait_zero]; iintro -; iempintro

/-! ## What every device knows -/

/-- Every semaphore of the exchange on every device keeps its round, and has reached it. -/
def records (K : Dev nD × CIx → ℕ) : sProp 𝕄 :=
  bigSep Finset.univ fun ck : Dev nD × CIx => iprop(cellInv ER (Rd val) (K ck) (kcell ck) ∗ reached ER (kcell ck) 0)

/-- The records may be used any number of times. -/
instance records_persistent (K : Dev nD × CIx → ℕ) : BI.Persistent (records val K) := by unfold records; infer_instance

/-- The records give the record of each semaphore. -/
theorem records_cell (K : Dev nD × CIx → ℕ) (c : Dev nD) (k : CIx) :
    records val K ⊢ iprop(cellInv ER (Rd val) (K (c, k)) (kcell (c, k)) ∗ reached ER (kcell (c, k)) 0) := by
  unfold records
  exact bigSep_elim (Φ := fun ck : Dev nD × CIx => iprop(cellInv ER (Rd val) (K ck) (kcell ck) ∗ reached ER (kcell ck) 0)) (Finset.mem_univ (c, k))

end Cert.Cube
-- ==== Proof.Step.lean ====
/-
# One stage of the exchange

A stage sends the accumulator across one bit, waits for the send and for the partner's matrix, and adds that matrix to
the accumulator. `wp_stage` runs all seven operations at once, at any stage and any device.
-/
module

public import proofs.«01_k».proof.Proof.Cube

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants are needed. -/
abbrev 𝒱₀ : Variants := Variants.none

/-- The whole accumulator as a rectangle. -/
abbrev rA : Rect S64x1024 := Rect.unit (s := S64x1024) ![0, 0] S64x1024.size inb_S64x1024_S64x1024_0_0

/-- The zero offset. -/
theorem hz : (![0, 0] : Fin 2 → Nat) = fun _ => 0 := funext fun a => by fin_cases a <;> rfl

/-- The sum a stage stores. -/
def addv (a x : V F) : V F := shapeCast S64x1024 (addf a x) shapeCasts_S64x1024_S64x1024

/-- The sum a stage stores, of the accumulator and the slot as the slot is loaded. -/
abbrev addp (a : V F) (b : Vec F S1x1x64x1024 .f32) : V F := addv a (shapeCast S64x1024 b shapeCasts_S1x1x64x1024_S64x1024)

omit [FloatOps F] in
/-- Loading the whole accumulator gives its contents, and -/
theorem read_acc (f : V F) : (aM : Memref sig .tc .vmem S64x1024 .f32).view.readAt (Elt F) rA.toLoadRect f = f :=
  Memref.readAt_unit_zero (Elt F) cc0_scratch0 hz _ _
omit [FloatOps F] in
/-- storing over it all leaves what is stored, -/
theorem write_acc (f w : V F) :
    ((aM : Memref sig .tc .vmem S64x1024 .f32).access rA : View sig .tc _ _ _).write (Elt F) f w Finset.univ = w :=
  Memref.write_access_unit_zero_univ (Elt F) cc0_scratch0 hz _ f w

/-- A device owing `O`, whatever it has waited for. -/
def owesEx (c : Dev nD) (O : CellTallies nD τ sig Unit) : sProp 𝕄 := iprop(∃ W : Waits sig Unit, owes (c : Thread nD τ) O W)

/-- What stage `n` on device `c` uses up: its places at the two semaphores, the right to pay the partner's receive
    semaphore and its own send semaphore, the credit of what it will receive, the partner's slot. -/
def stageRes (c : Dev nD) (n : Fin 12) : sProp 𝕄 :=
  iprop(atPos ER (sendCell c n) 0 ∅ 0 ∗ atPos ER (recvCell c n) 0 ∅ 0 ∗ dutyTok ER (sendCell c n) 0 0
    ∗ dutyTok ER (recvCell (pn n c) n) 0 0 ∗ cred (tallyAt (recvCell c n) () N) ∗ slotAny (F := F) (pn n c) n)

/-- What stage `n` on device `c` leaves: the landing slot and both semaphores at zero. -/
def stageEnd (c : Dev nD) (n : Fin 12) : sProp 𝕄 :=
  iprop(slotAny (F := F) c n ∗ semVal (sendCell c n) 0 ∗ semVal (recvCell c n) 0)

variable (val : Fin 12 → Dev nD → V F) (K : Dev nD × CIx → ℕ)

/-- The transfer of stage `n`. -/
theorem wp_send (c : Dev nD) (n : Fin 12)
    {hsc : (slotM n).view.ref.isScScratch = false}
    {hsrc : (aM : Memref sig .tc .vmem S64x1024 .f32).view.WordExact} {hdst : (slotM n).view.WordExact}
    {hsem : DmaTarget.Typed .vmem (.dma (recvS n)) (.remote (Dev.tc (pn n c) : Thread nD τ) (slotM n) (.dma (sendS n)) hsc)}
    {α : Type} {Q : α → sProp 𝕄} {k : PUnit → Prog (TpuEff nD τ sig (Elt F) Λ₀ .tc) α} (W : Waits sig Unit) :
    iprop(records val K ∗ accPts c (val n c) ∗ slotAny (F := F) (pn n c) n ∗ owes (c : Thread nD τ) (Ow n.val c) W
        ∗ dutyTok ER (sendCell c n) 0 0 ∗ dutyTok ER (recvCell (pn n c) n) 0 0)
      ⊢ iprop(((cred (tallyAt (sendCell c n) () N) ∗ owes (c : Thread nD τ) (Ow (n.val + 1) c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc (pn n c) : Thread nD τ) (slotM n) (.dma (sendS n)) hsc) (.dma (recvS n)) hsrc hdst hsem) k) Q) := by
  unfold slotAny
  iintro ⟨#HR, Ha, ⟨%fd, Hs⟩, HO, Ht1, Ht2⟩
  ihave H1 := (records_cell val K c (.inr (.inl n))) $$ HR
  icases H1 with ⟨#HI1, #Hr1⟩
  ihave H2 := (records_cell val K (pn n c) (.inr (.inr n))) $$ HR
  icases H2 with ⟨#HI2, #Hr2⟩
  unfold accPts
  iapply (Rounds.wp_send_pointsTo 𝒱₀ ER (Rd val) (c : Thread nD τ) none (κ₁ := K (c, .inr (.inl n))) (κ₂ := K (pn n c, .inr (.inr n)))
    (r₁ := 0) (r₂ := 0) (d₁ := 0) (d₂ := 0) (fs := val n c) (fd := fd) (c' := (Dev.tc (pn n c) : Thread nD τ)) (src := aM) (dst := slotM n)
    (sS := .dma (sendS n)) (sem := .dma (recvS n))
    (by rw [duties_send val c n]; exact Finset.mem_singleton_self _) (by rw [duties_recv val (pn n c) n]; exact Finset.mem_singleton_self _)
    () () N rfl (amount_send val c n 0) (amount_recv val (pn n c) n 0) (Ow (n.val + 1) c) (Ow_peel n c) (W := W)
    (by rw [payload_send]; unfold accPts; exact BI.Entails.refl _)
    (by
      rw [payload_recv, show pn n (pn n c) = c from partner_partner _ _]; unfold slotHas owns
      iintro H
      iexists ((slotM n).view.write (Elt F) fd ((aM : Memref sig .tc .vmem S64x1024 .f32).view.read (Elt F) (val n c)) Finset.univ)
      isplitr
      · ipureintro; exact View.read_write_univ _ _
      · iexact H)) $$ [Ha Hs HO Ht1 Ht2]
  isplitr; · iexact HI1
  isplitr; · iexact HI2
  isplitl [Ha]; · iexact Ha
  isplitl [Hs]; · iexact Hs
  isplitl [HO]; · iexact HO
  isplitl [Ht1]; · iexact Ht1
  isplitr; · iexact Hr1
  isplitl [Ht2]; · iexact Ht2
  iexact Hr2

/-- The wait for the send of stage `n`: the accumulator comes back and the semaphore is done with. -/
theorem wp_wait_send (c : Dev nD) (n : Fin 12) (j : ℕ)
    {src dst : Memref sig .tc .vmem S64x1024 .f32} {hsrc : src.view.WordExact} {hdst : dst.view.WordExact} (hN : dst.view.dmaCredit = N)
    {α : Type} {Q : α → sProp 𝕄} {k : PUnit → Prog (TpuEff nD τ sig (Elt F) Λ₀ .tc) α} (W : Waits sig Unit) :
    iprop(records val K ∗ levAts L lv ∗ cred (tallyAt (sendCell c n) () N) ∗ owes (c : Thread nD τ) (Ow j c) W ∗ atPos ER (sendCell c n) 0 ∅ 0)
      ⊢ iprop(((owesEx (F := F) c (Ow j c) ∗ semVal (sendCell c n) 0 ∗ accPts c (val n c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS n) src dst hsrc hdst) k) Q) := by
  iintro ⟨#HR, #Hl, Hc, HO, Hat⟩ Hk
  ihave H1 := (records_cell val K c (.inr (.inl n))) $$ HR
  icases H1 with ⟨#HI, #Hr⟩
  iapply (Rounds.wp_wait_rest_token 𝒱₀ ER (Rd val) (c : Thread nD τ) none (κ := K (c, .inr (.inl n)))
      (wpE_waitDma2_eq 𝒱₀ (c : Thread nD τ) none Set.univ) (Set.mem_univ _) () (O := Ow j c) (W := W) (R := 0) (m := 0) (T := ∅)
      (by rw [Nat.zero_add, hN]; exact (expect_send val c n).symm)) $$ [Hc HO Hat]
  · isplitr; · iexact HI
    isplitl [Hc]; · iexact Hc
    isplitl [HO]; · iexact HO
    isplitr
    · iapply (mayWait_of_lt c (.dma (sendS n)) j (by rw [lv_send]; omega)); iexact Hl
    iexact Hat
  iintro ⟨HO, Hat, -, Hpay⟩
  imod (Rounds.cell_close ER (Rd val) (Set.mem_univ (K (c, .inr (.inl n)))) (fun h => h) (R := 0 + 1) (duties_later val (sendCell c n))) $$ [Hat] with Hz
  · isplitr; · iexact HI
    iexact Hat
  iapply Hk
  isplitl [HO]; · unfold owesEx; iexists _; iexact HO
  isplitl [Hz]; · iexact Hz
  iapply (Entails.of_eq (rest_send val c n)); iexact Hpay

/-- The wait for the partner's matrix of stage `n`: the slot holds it and the semaphore is done with. -/
theorem wp_wait_recv (c : Dev nD) (n : Fin 12)
    {src dst : Memref sig .tc .vmem S64x1024 .f32} {hsrc : src.view.WordExact} {hdst : dst.view.WordExact} (hN : dst.view.dmaCredit = N)
    {α : Type} {Q : α → sProp 𝕄} {k : PUnit → Prog (TpuEff nD τ sig (Elt F) Λ₀ .tc) α} (W : Waits sig Unit) :
    iprop(records val K ∗ levAts L lv ∗ cred (tallyAt (recvCell c n) () N) ∗ owes (c : Thread nD τ) (Ow (n.val + 1) c) W ∗ atPos ER (recvCell c n) 0 ∅ 0)
      ⊢ iprop(((owesEx (F := F) c (Ow (n.val + 1) c) ∗ semVal (recvCell c n) 0 ∗ slotHas c n (val n (pn n c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS n) src dst hsrc hdst) k) Q) := by
  iintro ⟨#HR, #Hl, Hc, HO, Hat⟩ Hk
  ihave H1 := (records_cell val K c (.inr (.inr n))) $$ HR
  icases H1 with ⟨#HI, #Hr⟩
  iapply (Rounds.wp_wait_rest_token 𝒱₀ ER (Rd val) (c : Thread nD τ) none (κ := K (c, .inr (.inr n)))
      (wpE_waitDma2_eq 𝒱₀ (c : Thread nD τ) none Set.univ) (Set.mem_univ _) () (O := Ow (n.val + 1) c) (W := W) (R := 0) (m := 0) (T := ∅)
      (by rw [Nat.zero_add, hN]; exact (expect_recv val c n).symm)) $$ [Hc HO Hat]
  · isplitr; · iexact HI
    isplitl [Hc]; · iexact Hc
    isplitl [HO]; · iexact HO
    isplitr
    · iapply (mayWait_of_lt c (.dma (recvS n)) (n.val + 1) (by rw [lv_recv]; omega)); iexact Hl
    iexact Hat
  iintro ⟨HO, Hat, -, Hpay⟩
  imod (Rounds.cell_close ER (Rd val) (Set.mem_univ (K (c, .inr (.inr n)))) (fun h => h) (R := 0 + 1) (duties_later val (recvCell c n))) $$ [Hat] with Hz
  · isplitr; · iexact HI
    iexact Hat
  iapply Hk
  isplitl [HO]; · unfold owesEx; iexists _; iexact HO
  isplitl [Hz]; · iexact Hz
  iapply (Entails.of_eq (rest_recv val c n)); iexact Hpay

omit [FloatOps F] in
/-- Loading slot `n` touches the slot's elements only. -/
theorem slot_load_sub (n : Fin 12) : (rM : Memref sig .tc .vmem S3x4x64x1024 .f32).view.setOn (slotR n).toLoadRect.set ⊆ (slotM n).view.set := by
  rw [slot_set, View.set_slice]; exact Finset.Subset.refl _

/-- Stage `n` on device `c`: from the accumulator at what the device sends to the accumulator plus what its partner sends. -/
theorem wp_stage (c : Dev nD) (n : Fin 12) (dev : Dev nD) (hn : dev = pn n c) (off : Fin 4 → Nat)
    (inb : ∀ a, off a + S1x1x64x1024.size a ≤ S3x4x64x1024.size a) (hoff : off = slotOff n)
    (q₁ q₂ : DmaSem sig) (hq₁ : q₁ = sendS n) (hq₂ : q₂ = recvS n)
    (p : V F → Vec F S1x1x64x1024 .f32 → V F) (hp : ∀ a b, p a b = addp a b)
    {hu1 hu2 hu3 hsc hsrc hdst hsem hs1 hd1 hs2 hd2 hl1 hl2 hl3 hst1 hst2}
    {α : Type} {Q : α → sProp 𝕄} {k : PUnit → Prog (TpuEff nD τ sig (Elt F) Λ₀ .tc) α} :
    iprop(records val K ∗ levAts L lv ∗ stageRes (F := F) c n ∗ accPts c (val n c) ∗ owesEx (F := F) c (Ow n.val c))
      ⊢ iprop(((accPts c (addv (val n c) (val n (pn n c))) ∗ owesEx (F := F) c (Ow (n.val + 1) c) ∗ stageEnd (F := F) c n)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc dev : Thread nD τ)
                  ((rM.slice (Rect.unit (s := S3x4x64x1024) off S1x1x64x1024.size inb) hu1).squeeze S64x1024 squeezes_S1x1x64x1024_S64x1024)
                  (.dma q₁) hsc) (.dma q₂) hsrc hdst hsem) fun _ =>
               .op (.waitDma2 q₁ ((rM.slice (Rect.unit (s := S3x4x64x1024) off S1x1x64x1024.size inb) hu2).squeeze S64x1024 squeezes_S1x1x64x1024_S64x1024)
                  aM hs1 hd1) fun _ =>
               .op (.waitDma2 q₂ aM ((rM.slice (Rect.unit (s := S3x4x64x1024) off S1x1x64x1024.size inb) hu3).squeeze S64x1024 squeezes_S1x1x64x1024_S64x1024)
                  hs2 hd2) fun _ =>
               .op (.load aM rA.toLoadRect hl1) fun a =>
               .op (.load rM (Rect.unit (s := S3x4x64x1024) off S1x1x64x1024.size inb).toLoadRect hl2) fun b =>
               .op (.load aM rA.toLoadRect hl3) fun _ =>
               .op (.store aM rA (p a b) Finset.univ hst1 hst2) k) Q) := by
  subst hn hoff hq₁ hq₂
  unfold stageRes
  iintro ⟨#HR, #Hl, ⟨Ha1, Ha2, Ht1, Ht2, Hc, Hs⟩, Hacc, HO⟩ Hk
  unfold owesEx
  icases HO with ⟨%W, HO⟩
  iapply (wp_send val K c n W) $$ [Hacc Hs HO Ht1 Ht2]
  · isplitr; · iexact HR
    isplitl [Hacc]; · iexact Hacc
    isplitl [Hs]; · iexact Hs
    isplitl [HO]; · iexact HO
    isplitl [Ht1]; · iexact Ht1
    iexact Ht2
  iintro ⟨Hcs, HO⟩
  iapply (wp_wait_send val K c n (n.val + 1) credit_acc W) $$ [Hcs HO Ha1]
  · isplitr; · iexact HR
    isplitr; · iexact Hl
    isplitl [Hcs]; · iexact Hcs
    isplitl [HO]; · iexact HO
    iexact Ha1
  unfold owesEx
  iintro ⟨⟨%W', HO⟩, Hz1, Hacc⟩
  iapply (wp_wait_recv val K c n (credit_slot n) W') $$ [Hc HO Ha2]
  · isplitr; · iexact HR
    isplitr; · iexact Hl
    isplitl [Hc]; · iexact Hc
    isplitl [HO]; · iexact HO
    iexact Ha2
  unfold owesEx slotHas owns
  iintro ⟨⟨%W'', HO⟩, Hz2, %g, %hg, Hs⟩
  unfold accPts
  iapply (wp_load 𝒱₀ (c : Thread nD τ) none Set.univ (m := aM) (by rw [View.set_whole]; exact Finset.subset_univ _)) $$ Hacc; iintro Hacc
  rw [read_acc]
  iapply (wp_load 𝒱₀ (c : Thread nD τ) none Set.univ (m := rM) (slot_load_sub n)) $$ Hs; iintro Hs
  iapply (wp_load 𝒱₀ (c : Thread nD τ) none Set.univ (m := aM) (by rw [View.set_whole]; exact Finset.subset_univ _)) $$ Hacc; iintro Hacc
  iapply (wp_store 𝒱₀ (c : Thread nD τ) none Set.univ (m := aM) (r := rA) (Mk := Finset.univ) (by rw [View.set_whole]; exact Finset.subset_univ _)) $$ Hacc; iintro Hacc
  rw [write_acc, hp]
  iapply Hk
  isplitl [Hacc]
  · rw [← hg]; iexact Hacc
  isplitl [HO]; · iexists _; iexact HO
  unfold stageEnd slotAny
  isplitl [Hs]; · iexists g; iexact Hs
  isplitl [Hz1] <;> iassumption

end Cert.Cube
-- ==== Proof.Entry.lean ====
/-
# Entering the exchange

Before the first transfer a device signals its four partners' barriers, handing each the three slots that partner will
write, and waits for its own barrier to reach four, which hands it the twelve slots it will write.
-/
module

public import proofs.«01_k».proof.Proof.Step
public import Idealize.ShloMosaic.Lib.Ring.FamCut

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The landing buffer as slots -/

/-- What the landing buffer has besides its slots. -/
def slotRest (c : Dev nD) : sProp 𝕄 :=
  iprop(∃ f : Buf (Elt F) ((c : Thread nD τ).loc cc0_scratch1),
    ((c : Thread nD τ).loc cc0_scratch1) ↦[Ring.restOf (ℓ := (c : Thread nD τ).loc cc0_scratch1) (fun n : Fin 12 => (slotM n).view.set)]{fullShare} f)

omit [FloatOps F] in
/-- The landing buffer is its twelve slots and the rest. -/
theorem slots_split (c : Dev nD) :
    (iprop(∃ f : Buf (Elt F) ((c : Thread nD τ).loc cc0_scratch1), ((c : Thread nD τ).loc cc0_scratch1) ↦{fullShare} f) : sProp 𝕄)
      ⊢ iprop((bigSep Finset.univ fun n : Fin 12 => slotAny (F := F) c n) ∗ slotRest (F := F) c) :=
  Ring.fam_split_ex (ℓ := (c : Thread nD τ).loc cc0_scratch1) (fun n : Fin 12 => (slotM n).view.set) slot_disjoint

omit [FloatOps F] in
/-- The twelve slots and the rest are the landing buffer. -/
theorem slots_join (c : Dev nD) (f₀ : Buf (Elt F) ((c : Thread nD τ).loc cc0_scratch1)) :
    iprop((bigSep Finset.univ fun n : Fin 12 => slotAny (F := F) c n) ∗ slotRest (F := F) c)
      ⊢ (iprop(∃ f : Buf (Elt F) ((c : Thread nD τ).loc cc0_scratch1), ((c : Thread nD τ).loc cc0_scratch1) ↦{fullShare} f) : sProp 𝕄) :=
  Ring.fam_join (ℓ := (c : Thread nD τ).loc cc0_scratch1) (fun n : Fin 12 => (slotM n).view.set) slot_disjoint f₀

omit [FloatOps F] in
/-- Twelve things by stage are four times three things by bit and layer. -/
theorem by_bit (Φ : Fin 12 → sProp 𝕄) :
    bigSep Finset.univ Φ = bigSep Finset.univ fun s : Fin 4 => bigSep Finset.univ fun l : Fin 3 => Φ (ix l s) := by
  rw [bigSep_univ_equiv stages, bigSep_univ_prod]; rfl

omit [FloatOps F] in
/-- Four things over the bits, one by one. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Twelve things over the stages, one by one. -/
theorem twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## The entry -/

/-- What stage `n` on device `c` uses up besides the partner's slot. -/
def stageTok (c : Dev nD) (n : Fin 12) : sProp 𝕄 :=
  iprop(atPos ER (sendCell c n) 0 ∅ 0 ∗ atPos ER (recvCell c n) 0 ∅ 0 ∗ dutyTok ER (sendCell c n) 0 0
    ∗ dutyTok ER (recvCell (pn n c) n) 0 0 ∗ cred (tallyAt (recvCell c n) () N))

omit [FloatOps F] in
/-- A stage's tokens and the partner's slot are what the stage uses up. -/
theorem stageRes_one (c : Dev nD) (n : Fin 12) :
    iprop(stageTok (F := F) c n ∗ slotAny (F := F) (pn n c) n) ⊢ (stageRes (F := F) c n : sProp 𝕄) := by
  unfold stageTok stageRes
  iintro ⟨⟨H1, H2, H3, H4, H5⟩, H6⟩
  isplitl [H1]; · iexact H1
  isplitl [H2]; · iexact H2
  isplitl [H3]; · iexact H3
  isplitl [H4]; · iexact H4
  isplitl [H5] <;> iassumption

omit [FloatOps F] in
/-- The slots of all four partners are the slots of all twelve stages. -/
theorem stageRes_intro (c : Dev nD) :
    iprop((bigSep Finset.univ fun n : Fin 12 => stageTok (F := F) c n) ∗ bigSep Finset.univ fun s : Fin 4 => barPay (F := F) c s)
      ⊢ (bigSep Finset.univ fun n : Fin 12 => stageRes (F := F) c n : sProp 𝕄) := by
  have h : (bigSep Finset.univ fun s : Fin 4 => barPay (F := F) c s : sProp 𝕄)
      = bigSep Finset.univ fun n : Fin 12 => slotAny (F := F) (pn n c) n := by
    rw [by_bit]
    refine bigSep_congr fun s _ => ?_
    unfold barPay
    refine bigSep_congr fun l _ => ?_
    rw [show pn (ix l s) c = partner s c from congrArg (fun b => partner b c) (bit_ix l s)]
  rw [h, ← bigSep_sep']
  exact bigSep_mono fun n _ => stageRes_one c n

variable (val : Fin 12 → Dev nD → V F) (K : Dev nD × CIx → ℕ)

/-- The slots a device hands its partner across bit `s`. -/
def give (c : Dev nD) (s : Fin 4) : sProp 𝕄 := bigSep Finset.univ fun l : Fin 3 => slotAny (F := F) c (ix l s)

/-- The signal to the partner across bit `s`. -/
theorem wp_sig (c : Dev nD) (s : Fin 4) (dev : Dev nD) (hd : dev = partner s c)
    {α : Type} {Q : α → sProp 𝕄} {k : PUnit → Prog (TpuEff nD τ sig (Elt F) Λ₀ .tc) α} :
    iprop(records val K ∗ owesEx (F := F) c (Ow 0 c + Ob s.val c) ∗ dutyTok ER (barCell (partner s c)) 0 s ∗ give (F := F) c s)
      ⊢ iprop((owesEx (F := F) c (Ow 0 c + Ob (s.val + 1) c) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (dev, Proc.tc) barS (1#32 : BitVec 32).toInt) k) Q) := by
  subst hd
  unfold owesEx
  iintro ⟨#HR, ⟨%W, HO⟩, Ht, Hg⟩ Hk
  ihave H1 := (records_cell val K (partner s c) (.inl ())) $$ HR
  icases H1 with ⟨#HI, #Hr⟩
  iapply (Rounds.wp_signal 𝒱₀ ER (Rd val) (c : Thread nD τ) none (dst := (partner s c : Thread nD τ)) (κ := K (partner s c, .inl ()))
      (d := s) (by rw [duties_bar]; exact Finset.mem_univ _) ((amount_bar val (partner s c) s).trans (by decide)) () (Ow 0 c + Ob (s.val + 1) c)
      (O₀ := Ow 0 c + Ob s.val c) (by rw [Ob_peel, add_assoc]; rfl)) $$ [HO Ht Hg]
  · isplitr; · iexact HI
    isplitl [HO]; · iexact HO
    isplitl [Ht]; · iexact Ht
    isplitl [Hg]
    · rw [payload_bar]; unfold barPay; rw [partner_partner]; unfold give; iexact Hg
    iexact Hr
  iintro HO
  iapply Hk
  iexists W; iexact HO

/-- What the entry uses. -/
def entryRes (c : Dev nD) : sProp 𝕄 :=
  iprop(atPos ER (barCell c) 0 ∅ 0 ∗ cred (tallyAt (barCell c) () 4)
    ∗ (bigSep Finset.univ fun s : Fin 4 => dutyTok ER (barCell (partner s c)) 0 s)
    ∗ (bigSep Finset.univ fun n : Fin 12 => slotAny (F := F) c n)
    ∗ bigSep Finset.univ fun n : Fin 12 => stageTok (F := F) c n)

/-- The whole entry: the four signals and the wait. -/
theorem wp_entry (c : Dev nD) (d1 d2 d3 d4 : Dev nD) (h1 : d1 = partner 0 c) (h2 : d2 = partner 1 c) (h3 : d3 = partner 2 c) (h4 : d4 = partner 3 c)
    {α : Type} {Q : α → sProp 𝕄} {k : PUnit → Prog (TpuEff nD τ sig (Elt F) Λ₀ .tc) α} :
    iprop(records val K ∗ levAts L lv ∗ entryRes (F := F) c ∗ owesEx (F := F) c (O₀ c))
      ⊢ iprop((((bigSep Finset.univ fun n : Fin 12 => stageRes (F := F) c n) ∗ semVal (barCell c) 0 ∗ owesEx (F := F) c (Ow 0 c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (d1, Proc.tc) barS (1#32 : BitVec 32).toInt) fun _ =>
               .op (.semSignal (d2, Proc.tc) barS (1#32 : BitVec 32).toInt) fun _ =>
               .op (.semSignal (d3, Proc.tc) barS (1#32 : BitVec 32).toInt) fun _ =>
               .op (.semSignal (d4, Proc.tc) barS (1#32 : BitVec 32).toInt) fun _ =>
               .op (.semWait barS (4#32 : BitVec 32).toInt) k) Q) := by
  unfold entryRes O₀
  rw [four, by_bit (fun n => slotAny (F := F) c n), four]
  iintro ⟨#HR, #Hl, ⟨Hat, Hc, ⟨Ht0, Ht1, Ht2, Ht3⟩, ⟨Hg0, Hg1, Hg2, Hg3⟩, Htk⟩, HO⟩ Hk
  iapply (wp_sig val K c 0 d1 h1) $$ [HO Ht0 Hg0]
  · isplitr; · iexact HR
    isplitl [HO]; · iexact HO
    isplitl [Ht0]; · iexact Ht0
    unfold give; iexact Hg0
  iintro HO
  iapply (wp_sig val K c 1 d2 h2) $$ [HO Ht1 Hg1]
  · isplitr; · iexact HR
    isplitl [HO]; · iexact HO
    isplitl [Ht1]; · iexact Ht1
    unfold give; iexact Hg1
  iintro HO
  iapply (wp_sig val K c 2 d3 h3) $$ [HO Ht2 Hg2]
  · isplitr; · iexact HR
    isplitl [HO]; · iexact HO
    isplitl [Ht2]; · iexact Ht2
    unfold give; iexact Hg2
  iintro HO
  iapply (wp_sig val K c 3 d4 h4) $$ [HO Ht3 Hg3]
  · isplitr; · iexact HR
    isplitl [HO]; · iexact HO
    isplitl [Ht3]; · iexact Ht3
    unfold give; iexact Hg3
  rw [show Ow 0 c + Ob ((3 : Fin 4).val + 1) c = Ow 0 c from by rw [show Ob ((3 : Fin 4).val + 1) c = 0 from Ob_end c, add_zero]]
  iintro HO
  unfold owesEx
  icases HO with ⟨%W, HO⟩
  ihave H1 := (records_cell val K c (.inl ())) $$ HR
  icases H1 with ⟨#HI, #Hr⟩
  iapply (Rounds.wp_wait_rest_token 𝒱₀ ER (Rd val) (c : Thread nD τ) none (κ := K (c, .inl ()))
      (wpE_semWait_eq 𝒱₀ (c : Thread nD τ) none Set.univ) (Set.mem_univ _) () (O := Ow 0 c) (W := W) (R := 0) (m := 0) (T := ∅)
      (by rw [expect_bar]; decide)) $$ [Hc HO Hat]
  · isplitr; · iexact HI
    isplitl [Hc]; · iexact Hc
    isplitl [HO]; · iexact HO
    isplitr
    · iapply (mayWait_of_lt c (.reg barS) 0 (by rw [lv_bar]; decide)); iexact Hl
    iexact Hat
  iintro ⟨HO, Hat, -, Hpay⟩
  imod (Rounds.cell_close ER (Rd val) (Set.mem_univ (K (c, .inl ()))) (fun h => h) (R := 0 + 1) (duties_later val (barCell c))) $$ [Hat] with Hz
  · isplitr; · iexact HI
    iexact Hat
  iapply Hk
  isplitl [Hpay Htk]
  · iapply (stageRes_intro (F := F) c)
    isplitl [Htk]; · iexact Htk
    iapply (Entails.of_eq (rest_bar val c)); iexact Hpay
  isplitl [Hz]; · iexact Hz
  iexists _; iexact HO

end Cert.Cube
-- ==== Proof.Body.lean ====
/-
# The kernel's body on one device

What every device holds at every stage, as functions of the memory at the start, and the body run from the launch's
hand-over to its end: three layers, each a local product, four exchanges, and a local product of the clamped sum.
-/
module

public import proofs.«01_k».proof.Proof.Entry

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at the start. -/
def s₀ : MemSt nD τ sig (Elt F) := ⟨m, fun _ => 0, ρ⟩

/-! ## What the devices hold -/

/-- Device `c`'s block of the input. -/
def xin (c : Dev nD) : Vec F S64x512 .f32 := (win0_0.blk (0 : Fin 1)).view.read (Elt F) (m ((c : Thread nD τ).loc main_arg0))
/-- Its block of the first layer's first matrix; -/
def wi0 (c : Dev nD) : Vec F S512x1024 .f32 := (win0_1.blk (0 : Fin 1)).view.read (Elt F) (m ((c : Thread nD τ).loc main_arg1))
/-- its block of the first layer's second matrix; -/
def wo0 (c : Dev nD) : Vec F S1024x512 .f32 := (win0_2.blk (0 : Fin 1)).view.read (Elt F) (m ((c : Thread nD τ).loc main_arg4))
/-- its block of the second layer's first matrix; -/
def wi1 (c : Dev nD) : Vec F S512x1024 .f32 := (win0_3.blk (0 : Fin 1)).view.read (Elt F) (m ((c : Thread nD τ).loc main_arg2))
/-- its block of the second layer's second matrix; -/
def wo1 (c : Dev nD) : Vec F S1024x512 .f32 := (win0_4.blk (0 : Fin 1)).view.read (Elt F) (m ((c : Thread nD τ).loc main_arg5))
/-- its block of the third layer's first matrix; -/
def wi2 (c : Dev nD) : Vec F S512x1024 .f32 := (win0_5.blk (0 : Fin 1)).view.read (Elt F) (m ((c : Thread nD τ).loc main_arg3))
/-- its block of the third layer's second matrix. -/
def wo2 (c : Dev nD) : Vec F S1024x512 .f32 := (win0_6.blk (0 : Fin 1)).view.read (Elt F) (m ((c : Thread nD τ).loc main_arg6))

set_option backward.proofsInPublic true in
/-- The accumulators after `s` exchanges, from `st`: every exchange adds the partner's. -/
def accL (st : Dev nD → V F) : ℕ → Dev nD → V F
  | 0 => st
  | s + 1 => fun c => addv (accL st s c) (accL st s (partner ⟨s % 4, Nat.mod_lt _ (by decide)⟩ c))

/-- The accumulators the first layer's exchanges start from. -/
def st0 (c : Dev nD) : V F := k0_pay3 (xin m c) (wi0 m c)
/-- The second layer starts from the first layer's sum, -/
def st1 (c : Dev nD) : V F := k0_pay9 (accL (st0 m) 4 c) (wo0 m c) (wi1 m c)
/-- the third from the second layer's. -/
def st2 (c : Dev nD) : V F := k0_pay9 (accL (st1 m) 4 c) (wo1 m c) (wi2 m c)
/-- The starting accumulators by layer number. -/
def startOf : ℕ → Dev nD → V F
  | 0 => st0 m
  | 1 => st1 m
  | _ => st2 m
/-- What device `c` sends at stage `n`. -/
def val (n : Fin 12) (c : Dev nD) : V F := accL (startOf m (n.val / 4)) (n.val % 4) c
/-- The kernel's result on device `c`. -/
def outAt (c : Dev nD) : Vec F S64x512 .f32 := k0_pay2 (accL (st2 m) 4 c) (wo2 m c)

/-- A stage leaves the accumulator of one exchange more. -/
theorem val_add (n : Fin 12) (c : Dev nD) :
    addv (val m n c) (val m n (pn n c)) = accL (startOf m (n.val / 4)) (n.val % 4 + 1) c := by
  have h : (⟨n.val % 4 % 4, Nat.mod_lt _ (by decide)⟩ : Fin 4) = bit n := Fin.ext (Nat.mod_mod _ _)
  show _ = addv _ (accL _ _ (partner _ c))
  rw [h]; rfl

/-! ## The pipeline's contents -/

/-- What the exchange needs at the start: the records, the levels, and the device's places, credit and rights. -/
def start (c : Dev nD) : sProp 𝕄 :=
  iprop((∃ K, records (val m) K) ∗ levAts L lv ∗ atPos ER (barCell c) 0 ∅ 0 ∗ cred (tallyAt (barCell c) () 4)
    ∗ (bigSep Finset.univ fun s : Fin 4 => dutyTok ER (barCell (partner s c)) 0 s)
    ∗ bigSep Finset.univ fun n : Fin 12 => stageTok (F := F) c n)
/-- Before the body: what the exchange needs, the accumulator, the landing slots and the rest of the landing buffer. -/
def Φ₀ (c : Dev nD) : sProp 𝕄 :=
  iprop(start m c ∗ (∃ f : V F, accPts c f) ∗ (bigSep Finset.univ fun n : Fin 12 => slotAny (F := F) c n) ∗ slotRest (F := F) c)
/-- After it: both buffers back and every semaphore at zero. -/
def Φ₁ (c : Dev nD) : sProp 𝕄 :=
  iprop((∃ f : V F, accPts c f) ∗ slotRest (F := F) c ∗ semVal (barCell c) 0 ∗ bigSep Finset.univ fun n : Fin 12 => stageEnd (F := F) c n)

/-- The launch's contents: the arrays before the run, the staging buffers after the body, what is held and owed before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => wi0 m c
    | ⟨2, _⟩ => wo0 m c
    | ⟨3, _⟩ => wi1 m c
    | ⟨4, _⟩ => wo1 m c
    | ⟨5, _⟩ => wi2 m c
    | ⟨6, _⟩ => wo2 m c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The grid has one step. -/
theorem cfg0_N : cfg0.N = 1 := by decide
/-- That step. -/
def t₀ : Fin cfg0.N := ⟨0, by rw [cfg0_N]; decide⟩
/-- Every step is that one. -/
theorem fin_N (t : Fin cfg0.N) : t = t₀ := by
  obtain ⟨t, ht⟩ := t; have := cfg0_N; exact Fin.ext (by simp only [t₀]; omega)

/-- Every window but the result's is fetched at that step. -/
theorem fetch_in (w : Fin cfg0.W) (h : w ≠ (7 : Fin 8)) (t : Fin cfg0.N) : (cfg0.win w).fetch t = true := by
  rw [fin_N t]
  have : ∀ w : Fin 8, w ≠ 7 → (cfg0.win w).fetch t₀ = true := by decide
  exact this w h

omit [FloatOps F] in
/-- Owning a whole buffer at `X` is holding it at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staging buffer `b` on device `c` at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The body -/

/-- The body's call. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _) cc0_scratch2 cc0_scratch3

/-- The input staging buffers, at the contents fetched. -/
def inputs (c : Dev nD) : sProp 𝕄 :=
  iprop(stg c cc0_stg0_0 (xin m c) ∗ stg c cc0_stg1_0 (wi0 m c) ∗ stg c cc0_stg2_0 (wo0 m c) ∗ stg c cc0_stg3_0 (wi1 m c)
    ∗ stg c cc0_stg4_0 (wo1 m c) ∗ stg c cc0_stg5_0 (wi2 m c) ∗ stg c cc0_stg6_0 (wo2 m c))

/-- What the body starts with: the exchange's needs, what is owed, the inputs fetched, and the result's buffer at any contents. -/
def bodyPre (c : Dev nD) : sProp 𝕄 :=
  iprop(Φ₀ m c ∗ owesEx (F := F) c (O₀ c) ∗ inputs m c ∗ ∃ f : Buf (Elt F) ((c : Thread nD τ).loc cc0_stg7_0), ((c : Thread nD τ).loc cc0_stg7_0) ↦{fullShare} f)
/-- What the body leaves: nothing owed, the inputs as they were, and the result's buffer at the kernel's result. -/
def bodyPost (c : Dev nD) : sProp 𝕄 :=
  iprop(Φ₁ (F := F) c ∗ owesEx (F := F) c 0 ∗ inputs m c ∗ stg c cc0_stg7_0 (outAt m c))

/-! ## The stages one after another -/

omit [FloatOps F] in
/-- One more stage splits off a family over the stages. -/
theorem insert_sep {s : Finset (Fin 12)} {n : Fin 12} (hn : n ∉ s) (Φ : Fin 12 → sProp 𝕄) :
    bigSep (insert n s) Φ = iprop(Φ n ∗ bigSep s Φ) := bigSep_insert hn

/-- The exchange with stages from `j` on to come and the earlier ones done. -/
def pend (c : Dev nD) (j : ℕ) : sProp 𝕄 :=
  iprop((bigSep (Finset.univ.filter fun n : Fin 12 => j ≤ n.val) fun n => stageRes (F := F) c n)
    ∗ (bigSep (Finset.univ.filter fun n : Fin 12 => n.val < j) fun n => stageEnd (F := F) c n) ∗ owesEx (F := F) c (Ow j c))

omit [FloatOps F] in
/-- At the start every stage is to come. -/
theorem pend_start (c : Dev nD) :
    iprop((bigSep Finset.univ fun n : Fin 12 => stageRes (F := F) c n) ∗ owesEx (F := F) c (Ow 0 c)) ⊢ (pend (F := F) c 0 : sProp 𝕄) := by
  unfold pend
  rw [Finset.filter_true_of_mem fun n _ => Nat.zero_le _, Finset.filter_false_of_mem fun n _ => Nat.not_lt_zero _, bigSep_empty]
  iintro ⟨H1, H2⟩
  isplitl [H1]; · iexact H1
  isplitr; · iempintro
  iexact H2

omit [FloatOps F] in
/-- At the end every stage is done and nothing is owed. -/
theorem pend_end (c : Dev nD) :
    (pend (F := F) c 12 : sProp 𝕄) ⊢ iprop((bigSep Finset.univ fun n : Fin 12 => stageEnd (F := F) c n) ∗ owesEx (F := F) c 0) := by
  unfold pend
  rw [Finset.filter_false_of_mem fun n _ => Nat.not_le_of_lt n.isLt, Finset.filter_true_of_mem fun n _ => n.isLt, bigSep_empty, Ow_end]
  iintro ⟨-, H⟩
  iexact H

omit [FloatOps F] in
/-- The next stage's resources taken out. -/
theorem pend_take (c : Dev nD) (n : Fin 12) :
    (pend (F := F) c n.val : sProp 𝕄) ⊢ iprop(stageRes (F := F) c n ∗ owesEx (F := F) c (Ow n.val c)
      ∗ (bigSep (Finset.univ.filter fun i : Fin 12 => n.val + 1 ≤ i.val) fun n => stageRes (F := F) c n)
      ∗ (bigSep (Finset.univ.filter fun i : Fin 12 => i.val < n.val) fun n => stageEnd (F := F) c n)) := by
  unfold pend
  rw [filter_peel, insert_sep (filter_peel_not_mem n)]
  iintro ⟨⟨H1, H2⟩, H3, H4⟩
  isplitl [H1]; · iexact H1
  isplitl [H4]; · iexact H4
  isplitl [H2] <;> iassumption

omit [FloatOps F] in
/-- A stage's remains put back. -/
theorem pend_put (c : Dev nD) (n : Fin 12) :
    iprop(stageEnd (F := F) c n ∗ owesEx (F := F) c (Ow (n.val + 1) c)
      ∗ (bigSep (Finset.univ.filter fun i : Fin 12 => n.val + 1 ≤ i.val) fun n => stageRes (F := F) c n)
      ∗ (bigSep (Finset.univ.filter fun i : Fin 12 => i.val < n.val) fun n => stageEnd (F := F) c n))
      ⊢ (pend (F := F) c (n.val + 1) : sProp 𝕄) := by
  unfold pend
  rw [show Finset.univ.filter (fun i : Fin 12 => i.val < n.val + 1) = insert n (Finset.univ.filter fun i : Fin 12 => i.val < n.val) from by
      ext i; simp only [Finset.mem_filter, Finset.mem_univ, true_and, Finset.mem_insert, Fin.ext_iff]; omega,
    insert_sep (show n ∉ Finset.univ.filter (fun i : Fin 12 => i.val < n.val) by simp)]
  iintro ⟨H1, H2, H3, H4⟩
  isplitl [H3]; · iexact H3
  isplitr [H2]
  · isplitl [H1] <;> iassumption
  iexact H2

/-- Stage `n` of the run: the accumulator gains one exchange. -/
theorem wp_next (K : Dev nD × CIx → ℕ) (c : Dev nD) (n : Fin 12) (dev : Dev nD) (hn : dev = pn n c) (off : Fin 4 → Nat)
    (inb : ∀ a, off a + S1x1x64x1024.size a ≤ S3x4x64x1024.size a) (hoff : off = slotOff n)
    (q₁ q₂ : DmaSem sig) (hq₁ : q₁ = sendS n) (hq₂ : q₂ = recvS n)
    (p : V F → Vec F S1x1x64x1024 .f32 → V F) (hp : ∀ a b, p a b = addp a b)
    (v : V F) (hv : accL (startOf m (n.val / 4)) (n.val % 4 + 1) c = v)
    {hu1 hu2 hu3 hsc hsrc hdst hsem hs1 hd1 hs2 hd2 hl1 hl2 hl3 hst1 hst2}
    {α : Type} {Q : α → sProp 𝕄} {k : PUnit → Prog (TpuEff nD τ sig (Elt F) Λ₀ .tc) α} :
    iprop((records (val m) K ∗ levAts L lv) ∗ pend (F := F) c n.val ∗ accPts c (val m n c))
      ⊢ iprop(((pend (F := F) c (n.val + 1) ∗ accPts c v)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc dev : Thread nD τ)
                  ((rM.slice (Rect.unit (s := S3x4x64x1024) off S1x1x64x1024.size inb) hu1).squeeze S64x1024 squeezes_S1x1x64x1024_S64x1024)
                  (.dma q₁) hsc) (.dma q₂) hsrc hdst hsem) fun _ =>
               .op (.waitDma2 q₁ ((rM.slice (Rect.unit (s := S3x4x64x1024) off S1x1x64x1024.size inb) hu2).squeeze S64x1024 squeezes_S1x1x64x1024_S64x1024)
                  aM hs1 hd1) fun _ =>
               .op (.waitDma2 q₂ aM ((rM.slice (Rect.unit (s := S3x4x64x1024) off S1x1x64x1024.size inb) hu3).squeeze S64x1024 squeezes_S1x1x64x1024_S64x1024)
                  hs2 hd2) fun _ =>
               .op (.load aM rA.toLoadRect hl1) fun a =>
               .op (.load rM (Rect.unit (s := S3x4x64x1024) off S1x1x64x1024.size inb).toLoadRect hl2) fun b =>
               .op (.load aM rA.toLoadRect hl3) fun _ =>
               .op (.store aM rA (p a b) Finset.univ hst1 hst2) k) Q) := by
  iintro ⟨⟨#HR, #Hl⟩, HP, Hacc⟩ Hk
  ihave H := (pend_take (F := F) c n) $$ HP
  icases H with ⟨Hres, HO, Hafter, Hbefore⟩
  iapply (wp_stage (val m) K c n dev hn off inb hoff q₁ q₂ hq₁ hq₂ p hp) $$ [Hres Hacc HO]
  · isplitr; · iexact HR
    isplitr; · iexact Hl
    isplitl [Hres]; · iexact Hres
    isplitl [Hacc] <;> iassumption
  rw [val_add, hv]
  iintro ⟨Hacc, HO, He⟩
  iapply Hk
  isplitr [Hacc]
  · iapply (pend_put (F := F) c n)
    isplitl [He]; · iexact He
    isplitl [HO]; · iexact HO
    isplitl [Hafter] <;> iassumption
  iexact Hacc

/-- The device a program's device word names, for the four barrier signals and the twelve transfers. -/
theorem dev1_eq : ∀ c : Dev nD, (⟨k0_dev1 c, k0_dev1_lt c⟩ : Dev nD) = partner 0 c := by decide +kernel
/-- The second signal goes to the partner across bit 1. -/
theorem dev2_eq : ∀ c : Dev nD, (⟨k0_dev2 c, k0_dev2_lt c⟩ : Dev nD) = partner 1 c := by decide +kernel
/-- The third signal goes to the partner across bit 2. -/
theorem dev3_eq : ∀ c : Dev nD, (⟨k0_dev3 c, k0_dev3_lt c⟩ : Dev nD) = partner 2 c := by decide +kernel
/-- The fourth signal goes to the partner across bit 3. -/
theorem dev4_eq : ∀ c : Dev nD, (⟨k0_dev4 c, k0_dev4_lt c⟩ : Dev nD) = partner 3 c := by decide +kernel
/-- Stage 0 sends to the partner across bit 0. -/
theorem dev5_eq : ∀ c : Dev nD, (⟨k0_dev5 c, k0_dev5_lt c⟩ : Dev nD) = pn 0 c := by decide +kernel
/-- Stage 1 sends to the partner across bit 1. -/
theorem dev6_eq : ∀ c : Dev nD, (⟨k0_dev6 c, k0_dev6_lt c⟩ : Dev nD) = pn 1 c := by decide +kernel
/-- Stage 2 sends to the partner across bit 2. -/
theorem dev7_eq : ∀ c : Dev nD, (⟨k0_dev7 c, k0_dev7_lt c⟩ : Dev nD) = pn 2 c := by decide +kernel
/-- Stage 3 sends to the partner across bit 3. -/
theorem dev8_eq : ∀ c : Dev nD, (⟨k0_dev8 c, k0_dev8_lt c⟩ : Dev nD) = pn 3 c := by decide +kernel
/-- Stage 4 sends to the partner across bit 0. -/
theorem dev9_eq : ∀ c : Dev nD, (⟨k0_dev9 c, k0_dev9_lt c⟩ : Dev nD) = pn 4 c := by decide +kernel
/-- Stage 5 sends to the partner across bit 1. -/
theorem dev10_eq : ∀ c : Dev nD, (⟨k0_dev10 c, k0_dev10_lt c⟩ : Dev nD) = pn 5 c := by decide +kernel
/-- Stage 6 sends to the partner across bit 2. -/
theorem dev11_eq : ∀ c : Dev nD, (⟨k0_dev11 c, k0_dev11_lt c⟩ : Dev nD) = pn 6 c := by decide +kernel
/-- Stage 7 sends to the partner across bit 3. -/
theorem dev12_eq : ∀ c : Dev nD, (⟨k0_dev12 c, k0_dev12_lt c⟩ : Dev nD) = pn 7 c := by decide +kernel
/-- Stage 8 sends to the partner across bit 0. -/
theorem dev13_eq : ∀ c : Dev nD, (⟨k0_dev13 c, k0_dev13_lt c⟩ : Dev nD) = pn 8 c := by decide +kernel
/-- Stage 9 sends to the partner across bit 1. -/
theorem dev14_eq : ∀ c : Dev nD, (⟨k0_dev14 c, k0_dev14_lt c⟩ : Dev nD) = pn 9 c := by decide +kernel
/-- Stage 10 sends to the partner across bit 2. -/
theorem dev15_eq : ∀ c : Dev nD, (⟨k0_dev15 c, k0_dev15_lt c⟩ : Dev nD) = pn 10 c := by decide +kernel
/-- Stage 11 sends to the partner across bit 3. -/
theorem dev16_eq : ∀ c : Dev nD, (⟨k0_dev16 c, k0_dev16_lt c⟩ : Dev nD) = pn 11 c := by decide +kernel

/-! ## The run -/

/-- A load gives what the view reads. -/
theorem wp_ld {cs : CoreSpace} {s : Shape} {e : EltTy} (m : Memref sig .tc cs s e) (c : Dev nD) {r : LoadRect s} {hl : m.view.LoadsAt r}
    {f : Buf (Elt F) (m.view.loc (c : Thread nD τ))} {v : r.shape.Idx → Elt F e} (hv : m.view.readAt (Elt F) r f = v)
    {α : Type} {Q : α → sProp 𝕄} {k : (r.shape.Idx → Elt F e) → Prog (TpuEff nD τ sig (Elt F) Λ₀ .tc) α} :
    (m.view.loc (c : Thread nD τ) ↦{fullShare} f : sProp 𝕄)
      ⊢ iprop(((m.view.loc (c : Thread nD τ) ↦{fullShare} f : sProp 𝕄) -∗ wp frame (wpE (defs₀ (F := F)) 𝒱₀ (c : Thread nD τ) none) Set.univ (k v) Q)
          -∗ wp frame (wpE (defs₀ (F := F)) 𝒱₀ (c : Thread nD τ) none) Set.univ (.op (.load m r hl) k) Q) := by
  subst hv
  exact wp_load 𝒱₀ (c : Thread nD τ) none Set.univ (m := m) (Finset.subset_univ _)

/-- An unmasked store leaves what it writes. -/
theorem wp_st {cs : CoreSpace} {s : Shape} {e : EltTy} (m : Memref sig .tc cs s e) (c : Dev nD) {r : Rect s} {w : r.shape.Idx → Elt F e}
    {hl1 : (m.access r).Stores Finset.univ} {hl2}
    {f v : Buf (Elt F) ((m.access r).loc (c : Thread nD τ))} (hv : (m.access r).write (Elt F) f w Finset.univ = v)
    {α : Type} {Q : α → sProp 𝕄} {k : PUnit → Prog (TpuEff nD τ sig (Elt F) Λ₀ .tc) α} :
    ((m.access r).loc (c : Thread nD τ) ↦{fullShare} f : sProp 𝕄)
      ⊢ iprop((((m.access r).loc (c : Thread nD τ) ↦{fullShare} v : sProp 𝕄) -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hl1 hl2) k) Q) := by
  subst hv
  exact wp_store 𝒱₀ (c : Thread nD τ) none Set.univ (m := m) (r := r) (Mk := Finset.univ) (Finset.subset_univ _)

/-- A load of the accumulator. -/
theorem wp_ld_acc (c : Dev nD) (f : V F) {hl} {α : Type} {Q : α → sProp 𝕄} {k : V F → Prog (TpuEff nD τ sig (Elt F) Λ₀ .tc) α} :
    (accPts c f : sProp 𝕄)
      ⊢ iprop((accPts c f -∗ wp frame (wpE (defs₀ (F := F)) 𝒱₀ (c : Thread nD τ) none) Set.univ (k f) Q)
          -∗ wp frame (wpE (defs₀ (F := F)) 𝒱₀ (c : Thread nD τ) none) Set.univ (.op (.load aM rA.toLoadRect hl) k) Q) := by
  rw [accPts_eq]
  exact wp_ld aM c (read_acc f)

/-- A store over the whole accumulator. -/
theorem wp_st_acc (c : Dev nD) (f w v : V F) (hw : w = v) {hl1 hl2} {α : Type} {Q : α → sProp 𝕄}
    {k : PUnit → Prog (TpuEff nD τ sig (Elt F) Λ₀ .tc) α} :
    (accPts c f : sProp 𝕄)
      ⊢ iprop((accPts c v -∗ wp frame (wpE (defs₀ (F := F)) 𝒱₀ (c : Thread nD τ) none) Set.univ (k ⟨⟩) Q)
          -∗ wp frame (wpE (defs₀ (F := F)) 𝒱₀ (c : Thread nD τ) none) Set.univ (.op (.store aM rA w Finset.univ hl1 hl2) k) Q) := by
  subst hw
  rw [accPts_eq, accPts_eq]
  exact wp_st aM c (write_acc f w)

/-- The body meets its specification: from `bodyPre` it runs to the end and leaves `bodyPost`. -/
theorem sound_body (c : Dev nD) (Kt : PUnit → sProp 𝕄) :
    iprop(bodyPre m c ∗ (bodyPost m c -∗ Kt ⟨⟩))
      ⊢ wp frame (wpE (defs₀ (F := F)) 𝒱₀ c none) Set.univ (theBody (F := F)) Kt := by
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel
  simp only [semSignalWord, semWaitWord, Prog.lift, Prog.bind_op, Prog.bind_ret, Prog.pure_eq_ret, Prog.bind_assoc, wp_deviceId]
  unfold bodyPre Φ₀ start inputs
  iintro ⟨⟨⟨⟨⟨%K, #HR⟩, #Hl, Hat, Hcb, Htb, Htk⟩, ⟨%fa, Hacc⟩, Hsl, Hrest⟩, HO,
    ⟨⟨%g0, %h0, Hx⟩, ⟨%g1, %h1, Hi0⟩, ⟨%g2, %h2, Ho0⟩, ⟨%g3, %h3, Hi1⟩, ⟨%g4, %h4, Ho1⟩, ⟨%g5, %h5, Hi2⟩, ⟨%g6, %h6, Ho2⟩⟩, %g7, Hout⟩, Hk⟩
  subst h0 h1 h2 h3 h4 h5 h6
  iapply (wp_entry (val m) K c _ _ _ _ (dev1_eq c) (dev2_eq c) (dev3_eq c) (dev4_eq c)) $$ [Hat Hcb Htb Hsl Htk HO]
  · isplitr; · iexact HR
    isplitr; · iexact Hl
    isplitr [HO]
    · unfold entryRes
      isplitl [Hat]; · iexact Hat
      isplitl [Hcb]; · iexact Hcb
      isplitl [Htb]; · iexact Htb
      isplitl [Hsl] <;> iassumption
    iexact HO
  iintro ⟨Hst, Hzb, HO⟩
  ihave HP := (pend_start (F := F) c) $$ [Hst HO]
  · isplitl [Hst] <;> iassumption
  ihave #HE := (show iprop(records (val m) K ∗ levAts L lv) ⊢ (iprop(records (val m) K ∗ levAts L lv) : sProp 𝕄) from BI.Entails.refl _) $$ []
  · isplitr; · iexact HR
    iexact Hl
  iapply (wp_ld (Memref.whole cc0_stg0_0) c (Memref.readAt_unit_zero (Elt F) cc0_stg0_0 hz _ _)) $$ Hx; iintro Hx
  iapply (wp_ld (Memref.whole cc0_stg1_0) c (Memref.readAt_unit_zero (Elt F) cc0_stg1_0 hz _ _)) $$ Hi0; iintro Hi0
  iapply (wp_ld_acc c _) $$ Hacc; iintro Hacc
  iapply (wp_st_acc c _ _ (val m 0 c) rfl) $$ Hacc; iintro Hacc
  iapply (wp_next m K c 0 _ (dev5_eq c) ![0, 0, 0, 0] _ rfl _ _ rfl rfl _ (fun _ _ => rfl) (val m 1 c) rfl) $$ [HP Hacc]
  · isplitr; · iexact HE
    isplitl [HP]; · iexact HP
    iexact Hacc
  iintro ⟨HP, Hacc⟩
  iapply (wp_next m K c 1 _ (dev6_eq c) ![0, 1, 0, 0] _ rfl _ _ rfl rfl _ (fun _ _ => rfl) (val m 2 c) rfl) $$ [HP Hacc]
  · isplitr; · iexact HE
    isplitl [HP]; · iexact HP
    iexact Hacc
  iintro ⟨HP, Hacc⟩
  iapply (wp_next m K c 2 _ (dev7_eq c) ![0, 2, 0, 0] _ rfl _ _ rfl rfl _ (fun _ _ => rfl) (val m 3 c) rfl) $$ [HP Hacc]
  · isplitr; · iexact HE
    isplitl [HP]; · iexact HP
    iexact Hacc
  iintro ⟨HP, Hacc⟩
  iapply (wp_next m K c 3 _ (dev8_eq c) ![0, 3, 0, 0] _ rfl _ _ rfl rfl _ (fun _ _ => rfl) (accL (startOf m 0) 4 c) rfl) $$ [HP Hacc]
  · isplitr; · iexact HE
    isplitl [HP]; · iexact HP
    iexact Hacc
  iintro ⟨HP, Hacc⟩
  iapply (wp_ld_acc c _) $$ Hacc; iintro Hacc
  iapply (wp_ld (Memref.whole cc0_stg2_0) c (Memref.readAt_unit_zero (Elt F) cc0_stg2_0 hz _ _)) $$ Ho0; iintro Ho0
  iapply (wp_ld (Memref.whole cc0_stg3_0) c (Memref.readAt_unit_zero (Elt F) cc0_stg3_0 hz _ _)) $$ Hi1; iintro Hi1
  iapply (wp_ld_acc c _) $$ Hacc; iintro Hacc
  iapply (wp_st_acc c _ _ (val m 4 c) rfl) $$ Hacc; iintro Hacc
  iapply (wp_next m K c 4 _ (dev9_eq c) ![1, 0, 0, 0] _ rfl _ _ rfl rfl _ (fun _ _ => rfl) (val m 5 c) rfl) $$ [HP Hacc]
  · isplitr; · iexact HE
    isplitl [HP]; · iexact HP
    iexact Hacc
  iintro ⟨HP, Hacc⟩
  iapply (wp_next m K c 5 _ (dev10_eq c) ![1, 1, 0, 0] _ rfl _ _ rfl rfl _ (fun _ _ => rfl) (val m 6 c) rfl) $$ [HP Hacc]
  · isplitr; · iexact HE
    isplitl [HP]; · iexact HP
    iexact Hacc
  iintro ⟨HP, Hacc⟩
  iapply (wp_next m K c 6 _ (dev11_eq c) ![1, 2, 0, 0] _ rfl _ _ rfl rfl _ (fun _ _ => rfl) (val m 7 c) rfl) $$ [HP Hacc]
  · isplitr; · iexact HE
    isplitl [HP]; · iexact HP
    iexact Hacc
  iintro ⟨HP, Hacc⟩
  iapply (wp_next m K c 7 _ (dev12_eq c) ![1, 3, 0, 0] _ rfl _ _ rfl rfl _ (fun _ _ => rfl) (accL (startOf m 1) 4 c) rfl) $$ [HP Hacc]
  · isplitr; · iexact HE
    isplitl [HP]; · iexact HP
    iexact Hacc
  iintro ⟨HP, Hacc⟩
  iapply (wp_ld_acc c _) $$ Hacc; iintro Hacc
  iapply (wp_ld (Memref.whole cc0_stg4_0) c (Memref.readAt_unit_zero (Elt F) cc0_stg4_0 hz _ _)) $$ Ho1; iintro Ho1
  iapply (wp_ld (Memref.whole cc0_stg5_0) c (Memref.readAt_unit_zero (Elt F) cc0_stg5_0 hz _ _)) $$ Hi2; iintro Hi2
  iapply (wp_ld_acc c _) $$ Hacc; iintro Hacc
  iapply (wp_st_acc c _ _ (val m 8 c) rfl) $$ Hacc; iintro Hacc
  iapply (wp_next m K c 8 _ (dev13_eq c) ![2, 0, 0, 0] _ rfl _ _ rfl rfl _ (fun _ _ => rfl) (val m 9 c) rfl) $$ [HP Hacc]
  · isplitr; · iexact HE
    isplitl [HP]; · iexact HP
    iexact Hacc
  iintro ⟨HP, Hacc⟩
  iapply (wp_next m K c 9 _ (dev14_eq c) ![2, 1, 0, 0] _ rfl _ _ rfl rfl _ (fun _ _ => rfl) (val m 10 c) rfl) $$ [HP Hacc]
  · isplitr; · iexact HE
    isplitl [HP]; · iexact HP
    iexact Hacc
  iintro ⟨HP, Hacc⟩
  iapply (wp_next m K c 10 _ (dev15_eq c) ![2, 2, 0, 0] _ rfl _ _ rfl rfl _ (fun _ _ => rfl) (val m 11 c) rfl) $$ [HP Hacc]
  · isplitr; · iexact HE
    isplitl [HP]; · iexact HP
    iexact Hacc
  iintro ⟨HP, Hacc⟩
  iapply (wp_next m K c 11 _ (dev16_eq c) ![2, 3, 0, 0] _ rfl _ _ rfl rfl _ (fun _ _ => rfl) (accL (startOf m 2) 4 c) rfl) $$ [HP Hacc]
  · isplitr; · iexact HE
    isplitl [HP]; · iexact HP
    iexact Hacc
  iintro ⟨HP, Hacc⟩
  iapply (wp_ld_acc c _) $$ Hacc; iintro Hacc
  iapply (wp_ld (Memref.whole cc0_stg6_0) c (Memref.readAt_unit_zero (Elt F) cc0_stg6_0 hz _ _)) $$ Ho2; iintro Ho2
  iapply (wp_ld (Memref.whole cc0_stg7_0) c (Memref.readAt_unit_zero (Elt F) cc0_stg7_0 hz _ _)) $$ Hout; iintro Hout
  iapply (wp_st (Memref.whole cc0_stg7_0) c (Memref.write_access_unit_zero_univ (Elt F) cc0_stg7_0 hz inb_S64x512_S64x512_0_0 _ (outAt m c))) $$ Hout; iintro Hout
  rw [wp_ret]; imodintro; iapply Hk
  ihave HP := (show (pend (F := F) c ((11 : Fin 12).val + 1) : sProp 𝕄) ⊢ _ from pend_end (F := F) c) $$ HP
  icases HP with ⟨Hends, HO⟩
  unfold bodyPost Φ₁ inputs
  isplitl [Hacc Hrest Hzb Hends]
  · isplitl [Hacc]; · iexists _; iexact Hacc
    isplitl [Hrest]; · iexact Hrest
    isplitl [Hzb] <;> iassumption
  isplitl [HO]; · iexact HO
  isplitr [Hout]
  · isplitl [Hx]; · iexists _; isplitr; · ipureintro; rfl
                    iexact Hx
    isplitl [Hi0]; · iexists _; isplitr; · ipureintro; rfl
                     iexact Hi0
    isplitl [Ho0]; · iexists _; isplitr; · ipureintro; rfl
                     iexact Ho0
    isplitl [Hi1]; · iexists _; isplitr; · ipureintro; rfl
                     iexact Hi1
    isplitl [Ho1]; · iexists _; isplitr; · ipureintro; rfl
                     iexact Ho1
    isplitl [Hi2]; · iexists _; isplitr; · ipureintro; rfl
                     iexact Hi2
    iexists _; isplitr; · ipureintro; rfl
    iexact Ho2
  iexists _; isplitr; · ipureintro; rfl
  iexact Hout

end Cert.Cube
-- ==== Proof.Launch.lean ====
/-
# The launch

The body under the pipeline, the exchange's semaphores set up on all devices at once with the right to pay each handed to
the device that pays it, and the run of the whole program.
-/
module

public import proofs.«01_k».proof.Proof.Body
public import Idealize.ShloMosaic.Lib.Pipeline.CollectiveSegs

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body under the pipeline -/

/-- Before the body every input's staging buffer holds the block fetched. -/
theorem before_in (c : Dev nD) (w : Fin cfg0.W) (h : w ≠ (7 : Fin 8)) (d) :
    (dats m ρ 0 c).before w t₀ d = (dats m ρ 0 c).after w t₀ := by
  unfold Dat.before
  rw [if_pos (fetch_in w h t₀)]
  have key : ∀ (w : Fin 8) (d), w ≠ 7 → (dats m ρ 0 c).fetched w t₀ d = (dats m ρ 0 c).after w t₀ := by
    intro w d h
    fin_cases w <;> first | rfl | exact absurd rfl h
  exact key w d h

set_option maxRecDepth 4000 in
/-- What the pipeline holds before the body. -/
def bodyPre' (c : Dev nD) : sProp 𝕄 :=
  iprop(Φ₀ m c ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

/-- What it takes back after the body. -/
def bodyPost' (c : Dev nD) : sProp 𝕄 :=
  iprop(Φ₁ (F := F) c ∗ (dats m ρ 0 c).owesAt () t₀.succ
    ∗ stg c cc0_stg0_0 (xin m c) ∗ stg c cc0_stg1_0 (wi0 m c) ∗ stg c cc0_stg2_0 (wo0 m c) ∗ stg c cc0_stg3_0 (wi1 m c)
    ∗ stg c cc0_stg4_0 (wo1 m c) ∗ stg c cc0_stg5_0 (wi2 m c) ∗ stg c cc0_stg6_0 (wo2 m c) ∗ stg c cc0_stg7_0 (outAt m c))

/-- A staging buffer at contents known to be `X` is one at `X`. -/
theorem stg_in (c : Dev nD) (b : Ref sig .tc) (X : b.ty.Contents (Elt F)) {α : Type} (Y : α → b.ty.Contents (Elt F)) (h : ∀ d, Y d = X) :
    (iprop(∃ d, stg c b (Y d)) : sProp 𝕄) ⊢ stg c b X := by
  iintro ⟨%d, H⟩
  iapply (Entails.of_eq (congrArg (stg c b) (h d)))
  iexact H

/-- The body meets what the launch asks of it at every step. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (theBody (F := F)) (fun _ => bodyPost' m ρ c)
  unfold bodyPre' Dat.owesAt Pipeline.owesWithin
  iintro ⟨HΦ, ⟨%W, -, HO⟩, H0, H1, H2, H3, H4, H5, H6, ⟨%d, %f, -, H7⟩⟩
  ihave H0 := (stg_in (F := F) c cc0_stg0_0 (xin m c) _ (before_in m ρ c 0 (by decide))) $$ H0
  ihave H1 := (stg_in (F := F) c cc0_stg1_0 (wi0 m c) _ (before_in m ρ c 1 (by decide))) $$ H1
  ihave H2 := (stg_in (F := F) c cc0_stg2_0 (wo0 m c) _ (before_in m ρ c 2 (by decide))) $$ H2
  ihave H3 := (stg_in (F := F) c cc0_stg3_0 (wi1 m c) _ (before_in m ρ c 3 (by decide))) $$ H3
  ihave H4 := (stg_in (F := F) c cc0_stg4_0 (wo1 m c) _ (before_in m ρ c 4 (by decide))) $$ H4
  ihave H5 := (stg_in (F := F) c cc0_stg5_0 (wi2 m c) _ (before_in m ρ c 5 (by decide))) $$ H5
  ihave H6 := (stg_in (F := F) c cc0_stg6_0 (wo2 m c) _ (before_in m ρ c 6 (by decide))) $$ H6
  iapply (sound_body m c fun _ => bodyPost' m ρ c)
  isplitr []
  · unfold bodyPre inputs owesEx
    isplitl [HΦ]; · iexact HΦ
    isplitl [HO]; · iexists W; iexact HO
    isplitr [H7]
    · isplitl [H0]; · iexact H0
      isplitl [H1]; · iexact H1
      isplitl [H2]; · iexact H2
      isplitl [H3]; · iexact H3
      isplitl [H4]; · iexact H4
      isplitl [H5] <;> iassumption
    iexists f; iexact H7
  · unfold bodyPost bodyPost' inputs owesEx Dat.owesAt Pipeline.owesWithin
    iintro ⟨HΦ, ⟨%W', HO⟩, ⟨H0, H1, H2, H3, H4, H5, H6⟩, H7⟩
    isplitl [HΦ]; · iexact HΦ
    isplitl [HO]
    · iexists W'
      isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6] <;> iassumption

/-! ## Setting the semaphores up -/

/-- The send and receive semaphores are distinct, and none is a staging semaphore. -/
theorem ownSemFacts : Pipeline.OwnSemFacts cfg0.spec osem := by decide

/-- Every array is held whole. -/
theorem share_eq (c : Dev nD) (w : Fin cfg0.W) : (dats m ρ 0 c).share w = fullShare := by unfold Dat.share; split <;> rfl

/-- Every semaphore of the exchange, on every device. -/
def cells : Finset (GSem nD τ sig) := Finset.univ.map ⟨kcell, kcell_inj⟩

/-- The payments of device `c`'s own semaphores: the barrier's four, then one for each send and receive semaphore. -/
def tokOf (x : Dev nD × (Fin 4 ⊕ OwnIx)) : GSem nD τ sig × ℕ × Fin 4 := match x.2 with
  | .inl s => (barCell x.1, 0, s)
  | .inr k => (kcell (x.1, .inr k), 0, 0)

/-- Different payments have different names. -/
theorem tokOf_inj : Function.Injective tokOf := by
  rintro ⟨c, s | k⟩ ⟨c', s' | k'⟩ h
  · have h1 : kcell (c, .inl ()) = kcell (c', .inl ()) := congrArg (fun x : GSem nD τ sig × ℕ × Fin 4 => x.1) h
    have h2 : s = s' := congrArg (fun x : GSem nD τ sig × ℕ × Fin 4 => x.2.2) h
    rw [h2, (Prod.mk.inj (kcell_inj h1)).1]
  · have h1 : kcell (c, .inl ()) = kcell (c', .inr k') := congrArg (fun x : GSem nD τ sig × ℕ × Fin 4 => x.1) h
    exact absurd (Prod.mk.inj (kcell_inj h1)).2 (fun h' => by cases h')
  · have h1 : kcell (c, .inr k) = kcell (c', .inl ()) := congrArg (fun x : GSem nD τ sig × ℕ × Fin 4 => x.1) h
    exact absurd (Prod.mk.inj (kcell_inj h1)).2 (fun h' => by cases h')
  · have h1 : kcell (c, .inr k) = kcell (c', .inr k') := congrArg (fun x : GSem nD τ sig × ℕ × Fin 4 => x.1) h
    have h2 := Prod.mk.inj (kcell_inj h1)
    rw [h2.1, Sum.inr.inj h2.2]

/-- All payments on all devices. -/
def payments : Finset (GSem nD τ sig × ℕ × Fin 4) := Finset.univ.map ⟨tokOf, tokOf_inj⟩

/-- The ghost state at the start. -/
def u₀ : UU := (initOf (Pipeline.cells cfgs cellOf_inj) (Pipeline.launchToks cfgs cellOf_inj), initOf cells payments)

/-- The rights to pay device `c`'s own semaphores. -/
def toks (c : Dev nD) : sProp 𝕄 :=
  iprop((bigSep Finset.univ fun s : Fin 4 => dutyTok ER (barCell c) 0 s) ∗ (bigSep Finset.univ fun n : Fin 12 => dutyTok ER (sendCell c n) 0 0)
    ∗ bigSep Finset.univ fun n : Fin 12 => dutyTok ER (recvCell c n) 0 0)

/-- The rights device `c` itself uses: at its partners' barriers and receive semaphores, and its own send semaphores. -/
def payToks (c : Dev nD) : sProp 𝕄 :=
  iprop((bigSep Finset.univ fun s : Fin 4 => dutyTok ER (barCell (partner s c)) 0 s) ∗ (bigSep Finset.univ fun n : Fin 12 => dutyTok ER (sendCell c n) 0 0)
    ∗ bigSep Finset.univ fun n : Fin 12 => dutyTok ER (recvCell (pn n c) n) 0 0)

/-- What the launch deals device `c`. -/
def G (c : Dev nD) : sProp 𝕄 :=
  iprop((bigSep Finset.univ fun k : CIx => roundState ER (Rd (val m)) (kcell (c, k)) 0)
    ∗ (bigSep Finset.univ fun k : CIx => iprop(atPos ER (kcell (c, k)) 0 ∅ 0 ∗ reached ER (kcell (c, k)) 0)) ∗ toks c)

/-- What is made of it: the records of all devices, and the device's own places and rights. -/
def G' (c : Dev nD) : sProp 𝕄 :=
  iprop((∃ K, records (val m) K) ∗ (bigSep Finset.univ fun k : CIx => atPos ER (kcell (c, k)) 0 ∅ 0) ∗ payToks c)

omit [FloatOps F] in
/-- Things over the own semaphores: over the send ones and over the receive ones. -/
theorem own_split (Φ : OwnIx → sProp 𝕄) :
    bigSep Finset.univ Φ = iprop((bigSep Finset.univ fun n : Fin 12 => Φ (.inl n)) ∗ bigSep Finset.univ fun n : Fin 12 => Φ (.inr n)) :=
  bigSep_univ_sum Φ

omit [FloatOps F] in
/-- Things over the exchange's semaphores: the barrier's and those over the own ones. -/
theorem cix_split (Φ : CIx → sProp 𝕄) :
    bigSep Finset.univ Φ = iprop(Φ (.inl ()) ∗ bigSep Finset.univ fun k : OwnIx => Φ (.inr k)) :=
  (bigSep_univ_sum Φ).trans (by rw [Finset.univ_unique, bigSep_singleton]; rfl)

omit [FloatOps F] in
/-- Things over a device's payments: the barrier's and those of the own semaphores. -/
theorem tok_split (Φ : Fin 4 ⊕ OwnIx → sProp 𝕄) :
    bigSep Finset.univ Φ = iprop((bigSep Finset.univ fun s : Fin 4 => Φ (.inl s)) ∗ bigSep Finset.univ fun k : OwnIx => Φ (.inr k)) :=
  bigSep_univ_sum Φ

/-- The ghost state at the start deals every device its part. -/
theorem fund : BI.own (ER (initOf cells payments)) ⊢ (|==> bigSep Finset.univ (G m) : sProp 𝕄) := by
  have hX (Φ : GSem nD τ sig → sProp 𝕄) : bigSep cells Φ = bigSep Finset.univ fun c : Dev nD => bigSep Finset.univ fun k : CIx => Φ (kcell (c, k)) := by
    unfold cells; rw [bigSep_map, bigSep_univ_prod]; rfl
  have hT : bigSep payments (fun x => (dutyTok ER x.1 x.2.1 x.2.2 : sProp 𝕄)) = bigSep Finset.univ fun c : Dev nD => toks c := by
    unfold payments; rw [bigSep_map, bigSep_univ_prod]
    exact bigSep_congr fun c _ => by unfold toks; rw [tok_split, own_split]; rfl
  iintro HX
  imod (Rounds.fund ER (Rd (val m)) cells payments) $$ HX with ⟨Hst, Hr, Hat, Htok⟩
  imodintro
  ihave Hst' := (Entails.of_eq (hX fun g => roundState ER (Rd (val m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores are the send and the receive semaphores; -/
theorem ownSems0_eq (c : Dev nD) : (Pipeline.ownSems0 (Ix := Unit) (Name := ℕ) (U := UU) (Lvl := ℕ) (Val := Elt F) (τ := τ) osem c : sProp 𝕄)
    = bigSep Finset.univ fun k : OwnIx => semVal (kcell (c, .inr k)) 0 := rfl
omit [FloatOps F] in
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The own semaphores and the barrier at zero are the exchange's semaphores at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, cix_split]
  iintro ⟨H, HB⟩
  isplitl [HB]; · iexact HB
  iexact H

/-- One device's semaphores become the exchange's cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (val m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (Rd (val m)) (kcell (c, k)) 0)
      ⊢ (|={Set.univ}=> bigSep Finset.univ fun k => iprop(∃ κ : ℕ, cellInv ER (Rd (val m)) κ (kcell (c, k))) : sProp 𝕄) from by
        rw [← bigSep_sep']
        exact (bigSep_mono fun k _ => (Rounds.body_intro ER (Rd (val m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Rights at a partner's semaphores, over all devices, are the rights at the own ones. -/
theorem across {I : Type} [Fintype I] (b : I → Fin 4) (Φ : Dev nD → I → sProp 𝕄) :
    (bigSep Finset.univ fun c : Dev nD => bigSep Finset.univ fun i : I => Φ c i)
      = bigSep Finset.univ fun c : Dev nD => bigSep Finset.univ fun i : I => Φ (partner (b i) c) i := by
  rw [← bigSep_univ_prod (fun x : Dev nD × I => Φ x.1 x.2), ← bigSep_univ_prod (fun x : Dev nD × I => Φ (partner (b x.2) x.1) x.2)]
  exact bigSep_univ_equiv (⟨fun x => (partner (b x.2) x.1, x.2), fun x => (partner (b x.2) x.1, x.2),
    fun x => by simp only [partner_partner], fun x => by simp only [partner_partner]⟩ : Dev nD × I ≃ Dev nD × I) (fun x => Φ x.1 x.2)

omit [FloatOps F] in
/-- Every right goes to the device that pays. -/
theorem toks_across : (bigSep Finset.univ fun c : Dev nD => (toks c : sProp 𝕄)) = bigSep Finset.univ fun c : Dev nD => payToks c := by
  unfold toks payToks
  rw [bigSep_sep', bigSep_sep', bigSep_sep', bigSep_sep', across (fun s => s) (fun c s => (dutyTok ER (barCell c) 0 s : sProp 𝕄)),
    across bit (fun c n => (dutyTok ER (recvCell c n) 0 0 : sProp 𝕄))]

/-- What everybody knows is given to each. -/
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records with a device's places and rights are what the device is given. -/
theorem G'_intro (K : Dev nD × CIx → ℕ) (c : Dev nD) :
    iprop(records (val m) K ∗ ((bigSep Finset.univ fun k : CIx => atPos ER (kcell (c, k)) 0 ∅ 0) ∗ payToks c)) ⊢ G' m c := by
  unfold G'
  iintro ⟨#HR, H⟩
  isplitr; · iexists K; iexact HR
  iexact H

/-- The cells and parts of all devices, put together, give each device the records and the rights it uses. -/
theorem regroup :
    (bigSep Finset.univ fun c : Dev nD => iprop((bigSep Finset.univ fun k => iprop(∃ κ : ℕ, cellInv ER (Rd (val m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CIx => iprop(∃ κ : ℕ, cellInv ER (Rd (val m)) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄)), toks_across]
  iintro ⟨HI, ⟨Hat, #HR⟩, Htk⟩
  ihave HK := (BI.bigSep_exists_pi Finset.univ (fun (ck : Dev nD × CIx) (κ : ℕ) => (cellInv ER (Rd (val m)) κ (kcell ck) : sProp 𝕄))) $$ HI
  icases HK with ⟨%K, #HI⟩
  iapply (with_records (R := records (val m) K) fun c _ => G'_intro m K c)
  isplitr
  · unfold records
    iapply (Entails.of_eq (bigSep_sep' Finset.univ (fun ck : Dev nD × CIx => (cellInv ER (Rd (val m)) (K ck) (kcell ck) : sProp 𝕄)) (fun ck => reached ER (kcell ck) 0)).symm)
    isplitl; · iexact HI
    iexact HR
  · iapply (Entails.of_eq (bigSep_sep' Finset.univ (fun c : Dev nD => bigSep Finset.univ fun k : CIx => (atPos ER (kcell (c, k)) 0 ∅ 0 : sProp 𝕄)) payToks).symm)
    isplitl [Hat]; · iexact Hat
    iexact Htk

/-- All devices' semaphores set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

omit [FloatOps F] in
/-- What the partners owe a device is its own credit: four units at its barrier, one transfer at each receive semaphore. -/
theorem creds (c : Dev nD) :
    (Pipeline.launchCred O₀ c : sProp 𝕄)
      ⊢ iprop(cred (tallyAt (barCell c) () 4) ∗ bigSep Finset.univ fun n : Fin 12 => cred (tallyAt (recvCell c n) () N)) := by
  have hw : (Pipeline.launchCred (Ow 0) c : sProp 𝕄) ⊢ bigSep Finset.univ fun n : Fin 12 => cred (tallyAt (recvCell c n) () N) := by
    unfold Ow
    rw [Pipeline.launchCred_sum, Finset.filter_true_of_mem fun n _ => Nat.zero_le _]
    exact bigSep_mono fun n _ => Pipeline.launchCred_tallyAt (.dma (recvS n)) (pn n) (pn n) (partner_partner _) (partner_partner _) () N c
  have hb : (Pipeline.launchCred (Ob 0) c : sProp 𝕄) ⊢ cred (tallyAt (barCell c) () 4) := by
    unfold Ob
    rw [Pipeline.launchCred_sum, Finset.filter_true_of_mem fun n _ => Nat.zero_le _]
    refine (bigSep_mono fun s _ => Pipeline.launchCred_tallyAt (.reg barS) (partner s) (partner s) (partner_partner s) (partner_partner s) () 1 c).trans ?_
    rw [← Pipeline.cred_finsetSum, Fin.sum_univ_four]
    rw [tallyAt_add, tallyAt_add, tallyAt_add]
    exact BI.Entails.refl _
  rw [show (O₀ : Dev nD → CellTallies nD τ sig Unit) = fun d => Ow 0 d + Ob 0 d from rfl, Pipeline.launchCred_add]
  iintro ⟨H1, H2⟩
  isplitl [H2]
  · iapply hb; iexact H2
  iapply hw; iexact H1

/-! ## The program's run -/

/-- What the launch hands a device is what its exchange needs. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hk : (bigSep Finset.univ fun n : Fin 12 => stageTok (F := F) c n : sProp 𝕄)
      = iprop((bigSep Finset.univ fun n : Fin 12 => atPos ER (sendCell c n) 0 ∅ 0) ∗ (bigSep Finset.univ fun n : Fin 12 => atPos ER (recvCell c n) 0 ∅ 0)
        ∗ (bigSep Finset.univ fun n : Fin 12 => dutyTok ER (sendCell c n) 0 0) ∗ (bigSep Finset.univ fun n : Fin 12 => dutyTok ER (recvCell (pn n c) n) 0 0)
        ∗ bigSep Finset.univ fun n : Fin 12 => cred (tallyAt (recvCell c n) () N)) := by
    unfold stageTok; rw [bigSep_sep', bigSep_sep', bigSep_sep', bigSep_sep']
  unfold start G' payToks
  rw [hk, cix_split, own_split]
  iintro ⟨-, Hlev, Hcr, -, HR, ⟨Hb, Hs, Hr⟩, Ht1, Ht2, Ht3⟩
  ihave Hc := (creds (F := F) c) $$ Hcr
  icases Hc with ⟨Hc1, Hc2⟩
  imodintro
  isplitl
  · isplitl [HR]; · iexact HR
    isplitl [Hlev]; · iexact Hlev
    isplitl [Hb]; · iexact Hb
    isplitl [Hc1]; · iexact Hc1
    isplitl [Ht1]; · iexact Ht1
    isplitl [Hs]; · iexact Hs
    isplitl [Hr]; · iexact Hr
    isplitl [Ht2]; · iexact Ht2
    isplitl [Ht3] <;> iassumption
  · iempintro

/-- That, with the two scratch buffers, is what the body starts with. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀
  iintro ⟨Hs, -, ⟨%f, Ha⟩, Hr⟩
  ihave Hsl := (slots_split (F := F) c) $$ Hr
  icases Hsl with ⟨Hsl, Hrest⟩
  isplitl [Hs]; · iexact Hs
  isplitl [Ha]
  · iexists f
    iapply (Entails.of_eq (accPts_eq c f).symm); iexact Ha
  isplitl [Hsl] <;> iassumption

/-- What the body leaves gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show cfg0.spec = spec0 from rfl, scopedRest0_eq, ownSems0_eq, unscopedSems0_eq, own_split]
  unfold Φ₁ stageEnd
  rw [bigSep_sep', bigSep_sep']
  iintro ⟨⟨%f, Ha⟩, Hrest, Hb, Hsl, Hs, Hr⟩
  isplitl [Hb]; · iexact Hb
  isplitl [Hs Hr]
  · isplitl [Hs]; · iexact Hs
    iexact Hr
  isplitl [Ha]
  · iexists f
    iapply (Entails.of_eq (accPts_eq c f)); iexact Ha
  iapply (slots_join (F := F) c (m ((c : Thread nD τ).loc cc0_scratch1)))
  isplitl [Hsl] <;> iassumption

/-- The staging semaphores may be waited on throughout. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What array `w` holds after the run. -/
def finalA (c : Dev nD) (w : Fin cfg0.W) : Buf (Elt F) ((cfg0.win w).arr.view.loc (c : Thread nD τ)) := (dats m ρ 0 c).arrAt w cfg0.N

/-- Every device's arrays hold `finalA`. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At any float values and from any memory with zero counters, every weakly fair execution of the sixteen devices
    terminates, with each device's arrays at the contents the body computes and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Cube
-- ==== Proof.Value.lean ====
/-
# What the sixteen devices compute, over the extended reals

Four exchanges leave on every device the sum over all sixteen. A product whose contracted axis is cut over the devices
is the sum of the local products; a product whose columns are cut is computed column block by column block. So after
each layer every device holds its column block of the whole product.
-/
module

public import proofs.«01_k».proof.Proof.Body
public import proofs.«01_k».proof.Proof.Gen.ReferenceIdeal
public import Idealize.ShloMosaic.Lib.Layout
public import Idealize.ShloMosaic.Lib.MatmulPlain
public import Idealize.ShloMosaic.Lib.StackMember
public import Idealize.ShloMosaic.Lib.Pointwise.Sums
public import Idealize.ShloMosaic.Lib.Pipeline.Value

@[expose] public section

noncomputable section

namespace Cert.Cube

open Cert.KernelIdeal Cert.KernelIdeal.Gen
open Idealize.ShloMosaic Idealize.SL.Sem
open scoped BigOperators

/-! ## The exchanges -/

/-- What a device holds after `s` exchanges that each add the partner's value. -/
def cube {M : Type*} [Add M] (f : Dev nD → M) : ℕ → Dev nD → M
  | 0 => f
  | s + 1 => fun c => cube f s c + cube f s (partner ⟨s % 4, Nat.mod_lt _ (by decide)⟩ c)

/-- The device that differs from `c` in the bits of `k`. -/
def across16 (c k : Fin 16) : Fin 16 := ⟨c.val ^^^ k.val, Nat.xor_lt_two_pow (n := 4) c.isLt k.isLt⟩

/-- Crossing the same bits twice returns to the start. -/
theorem across16_twice (c k : Fin 16) : across16 c (across16 c k) = k := by revert c k; decide

/-- Four exchanges leave the sum over all devices. -/
theorem cube_four {M : Type*} [AddCommMonoid M] (f : Dev nD → M) (c : Dev nD) : cube f 4 c = ∑ d : Dev nD, f d := by
  have e : ∑ d : Dev nD, f d = ∑ k : Fin 16, f (across16 c k) :=
    (Equiv.sum_comp (⟨across16 c, across16 c, across16_twice c, across16_twice c⟩ : Fin 16 ≃ Fin 16) f).symm
  have h : ∀ c : Dev nD, ∀ k : Fin 16, across16 c k
      = (if k.val % 2 = 1 then partner 0 else id) ((if k.val / 2 % 2 = 1 then partner 1 else id)
          ((if k.val / 4 % 2 = 1 then partner 2 else id) ((if k.val / 8 % 2 = 1 then partner 3 else id) c))) := by decide
  rw [e, Finset.sum_congr rfl fun k _ => congrArg f (h c k)]
  simp [Fin.sum_univ_succ, cube, add_assoc]

/-- The accumulators after the exchanges, entry by entry. -/
theorem accL_apply (st : Dev nD → V Ideal) (j : S64x1024.Idx) (s : ℕ) (c : Dev nD) : accL st s c j = cube (fun d => st d j) s c := by
  induction s generalizing c with
  | zero => rfl
  | succ s ih =>
    show addv (accL st s c) (accL st s (partner _ c)) j = _ + _
    unfold addv
    rw [shapeCast_self, ← ih, ← ih]
    rfl

/-! ## The products -/

/-- Two matrices that agree at every row and column are equal. -/
theorem ext2 {M N : ℕ} {α : Type} (f g : (⟨2, ![M, N]⟩ : Shape).Idx → α)
    (h : ∀ (r : Fin M) (l : Fin N), f (ValueIdx.ix2 r l) = g (ValueIdx.ix2 r l)) : f = g :=
  funext fun j => by rw [ValueIdx.eq_ix2 j]; exact h _ _

/-- A local product, entry by entry. -/
theorem pay3_apply (x : FVec Ideal S64x512 .f32) (w : FVec Ideal S512x1024 .f32) (r : Fin 64) (l : Fin 1024) :
    k0_pay3 (F := Ideal) x w (ValueIdx.ix2 r l) = ∑ k : Fin 512, x (ValueIdx.ix2 r k) * w (ValueIdx.ix2 k l) := by
  unfold k0_pay3
  rw [shapeCast_self, shapeCast_self, shapeCast_self]
  refine (congrFun (matmul_zero_eq_dotGeneral (DotDims.plain 64 512 1024) none x w) (ValueIdx.ix2 r l)).trans ?_
  exact StackMember.dotGeneral_plain_apply none x w r l

/-- The sum of the devices' local products is the whole product. -/
theorem exchanged (x : FVec Ideal ⟨2, ![64, 8192]⟩ .f32) (w : FVec Ideal ⟨2, ![8192, 1024]⟩ .f32) (st : Dev nD → V Ideal)
    (h : ∀ d, st d = k0_pay3 (F := Ideal) (Layout.block ⟨2, ![64, 512]⟩ ⟨2, ![64, 8192]⟩ 1 16 d x)
      (Layout.block ⟨2, ![512, 1024]⟩ ⟨2, ![8192, 1024]⟩ 0 16 d w)) (c : Dev nD) :
    accL st 4 c = Host.dotGeneral (DotDims.plain 64 8192 1024) none x w := by
  refine ext2 (M := 64) (N := 1024) _ _ fun r l => ?_
  rw [accL_apply, cube_four]
  refine Eq.trans ?_ (StackMember.dotGeneral_plain_apply none x w _ _).symm
  rw [Fin.sum_univ_tiles 16 512 rfl]
  refine Finset.sum_congr rfl fun d _ => ?_
  rw [h d, pay3_apply]
  refine Finset.sum_congr rfl fun k _ => ?_
  rw [Layout.block_apply, Layout.block_apply]
  congr 2 <;> (funext a; apply Fin.ext; match a with | ⟨0, _⟩ => rfl | ⟨1, _⟩ => rfl)

/-- The clamp at zero as the reference prints it. -/
abbrev clamp (a : FVec Ideal ⟨2, ![64, 1024]⟩ .f32) : FVec Ideal ⟨2, ![64, 1024]⟩ .f32 :=
  maximumf a (broadcastInDim Cert.ReferenceIdeal.S64x1024 ![] Cert.ReferenceIdeal.Gen.facts.bcast_S_S64x1024 (constant (F := Ideal) Cert.ReferenceIdeal.S_ .f32 0x00000000#32))

/-- A device's product with its column block is its column block of the whole product. -/
theorem columns (a : V Ideal) (w : FVec Ideal ⟨2, ![1024, 8192]⟩ .f32) (c : Dev nD) :
    k0_pay2 (F := Ideal) a (Layout.block ⟨2, ![1024, 512]⟩ ⟨2, ![1024, 8192]⟩ 1 16 c w)
      = Layout.block ⟨2, ![64, 512]⟩ ⟨2, ![64, 8192]⟩ 1 16 c (Host.dotGeneral (DotDims.plain 64 1024 8192) none (clamp a) w) := by
  refine ext2 (M := 64) (N := 512) _ _ fun r l => ?_
  rw [Layout.block_apply]
  unfold k0_pay2
  rw [shapeCast_self]
  refine (congrFun (matmul_zero_eq_dotGeneral (DotDims.plain 64 1024 512) none _ _) _).trans ?_
  refine (StackMember.dotGeneral_plain_apply none _ _ _ _).trans ?_
  refine Eq.trans ?_ (congrArg _ (ValueIdx.eq_ix2 (n0 := 64) (n1 := 8192) _)).symm
  refine Eq.trans ?_ (StackMember.dotGeneral_plain_apply none _ _ _ _).symm
  refine Finset.sum_congr rfl fun k _ => ?_
  rw [Layout.block_apply]
  congr 2
  funext a; apply Fin.ext; match a with | ⟨0, _⟩ => rfl | ⟨1, _⟩ => rfl

/-- A layer's two products on a device: the second of the first. -/
theorem pay9_eq (a : V Ideal) (wo : FVec Ideal S1024x512 .f32) (wi : FVec Ideal S512x1024 .f32) :
    k0_pay9 (F := Ideal) a wo wi = k0_pay3 (F := Ideal) (k0_pay2 (F := Ideal) a wo) wi := by
  unfold k0_pay9 k0_pay3
  dsimp only
  rw [shapeCast_self (k0_pay2 (F := Ideal) a wo)]
  rfl

/-! ## The three layers -/

variable (X : FVec Ideal ⟨2, ![64, 8192]⟩ .f32) (A0 A1 A2 : FVec Ideal ⟨2, ![8192, 1024]⟩ .f32)
  (B0 B1 B2 : FVec Ideal ⟨2, ![1024, 8192]⟩ .f32)

/-- One layer on the whole arrays: a product, the clamp, a product. -/
abbrev layer (x : FVec Ideal ⟨2, ![64, 8192]⟩ .f32) (wi : FVec Ideal ⟨2, ![8192, 1024]⟩ .f32)
    (wo : FVec Ideal ⟨2, ![1024, 8192]⟩ .f32) : FVec Ideal ⟨2, ![64, 8192]⟩ .f32 :=
  Host.dotGeneral (DotDims.plain 64 1024 8192) none (clamp (Host.dotGeneral (DotDims.plain 64 8192 1024) none x wi)) wo

variable (m : (ℓ : Loc nD τ sig) → Buf (Elt Ideal) ℓ)

/-- If every device starts from its blocks of the whole arrays, device `c`'s result is its column block of three layers
    of the whole arrays. -/
theorem outAt_eq (hx : ∀ c, xin m c = Layout.block ⟨2, ![64, 512]⟩ ⟨2, ![64, 8192]⟩ 1 16 c X)
    (hi0 : ∀ c, wi0 m c = Layout.block ⟨2, ![512, 1024]⟩ ⟨2, ![8192, 1024]⟩ 0 16 c A0)
    (hi1 : ∀ c, wi1 m c = Layout.block ⟨2, ![512, 1024]⟩ ⟨2, ![8192, 1024]⟩ 0 16 c A1)
    (hi2 : ∀ c, wi2 m c = Layout.block ⟨2, ![512, 1024]⟩ ⟨2, ![8192, 1024]⟩ 0 16 c A2)
    (ho0 : ∀ c, wo0 m c = Layout.block ⟨2, ![1024, 512]⟩ ⟨2, ![1024, 8192]⟩ 1 16 c B0)
    (ho1 : ∀ c, wo1 m c = Layout.block ⟨2, ![1024, 512]⟩ ⟨2, ![1024, 8192]⟩ 1 16 c B1)
    (ho2 : ∀ c, wo2 m c = Layout.block ⟨2, ![1024, 512]⟩ ⟨2, ![1024, 8192]⟩ 1 16 c B2) (c : Dev nD) :
    outAt m c = Layout.block ⟨2, ![64, 512]⟩ ⟨2, ![64, 8192]⟩ 1 16 c (layer (layer (layer X A0 B0) A1 B1) A2 B2) := by
  have h0 := exchanged X A0 (st0 m) fun d => by unfold st0; rw [hx, hi0]
  have h1 := exchanged (layer X A0 B0) A1 (st1 m) fun d => by unfold st1; rw [pay9_eq, h0, ho0, hi1, columns]
  have h2 := exchanged (layer (layer X A0 B0) A1 B1) A2 (st2 m) fun d => by unfold st2; rw [pay9_eq, h1, ho1, hi2, columns]
  unfold outAt
  rw [h2, ho2, columns]

end Cert.Cube

end
-- ==== Proof.lean ====
/-
# The five claims

The kernel's run (Launch), read at its arrays, gives the frames of both kernel programs; with the value of what every
device computes (Value) it gives the equation with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.KernelIdeal Cert.KernelIdeal.Gen Cert.Cube

/-! ## What the arrays hold after the run -/

section
variable {F : FTy → Type} [FloatOps F]
variable (m : (ℓ : Loc nD τ sig) → Buf (Elt F) ℓ) (ρ : Dev nD → PrngReg)

/-- An argument array holds what it held. -/
theorem finalA_in (c : Dev nD) (w : Fin cfg0.W) (h : (cfg0.win w).isOut = false) :
    finalA m ρ c w = m ((cfg0.win w).arr.view.loc (c : Thread nD τ)) :=
  (dats (F := F) m ρ 0 c).arrAt_in w h _

/-- The result array's one block is what the body left in the staging buffer. -/
theorem finalA_out (c : Dev nD) : (win0_7.blk (0 : Fin 1)).view.read (Elt F) (finalA m ρ c (7 : Fin 8)) = outAt m c := by
  unfold finalA
  rw [show cfg0.N = ((0 : Fin 1) : Fin cfg0.N).val + 1 from rfl, (dats m ρ 0 c).arrAt_succ (7 : Fin 8) (0 : Fin 1)]
  rw [show (cfg0.win (7 : Fin 8)).flush (0 : Fin 1) = true from by decide, if_pos rfl]
  exact View.read_write_univ _ _

/-- Each window's one block is its whole array, so what a device holds of an argument is the argument's array: the input, -/
theorem xin_eq (c : Dev nD) : xin m c = m ((c : Thread nD τ).loc main_arg0) :=
  Memref.read_access_unit_zero (Elt F) main_arg0 (funext fun a => by fin_cases a <;> decide) (fun a => by fin_cases a <;> decide) _
/-- the first layer's first matrix, -/
theorem wi0_eq (c : Dev nD) : wi0 m c = m ((c : Thread nD τ).loc main_arg1) :=
  Memref.read_access_unit_zero (Elt F) main_arg1 (funext fun a => by fin_cases a <;> decide) (fun a => by fin_cases a <;> decide) _
/-- its second, -/
theorem wo0_eq (c : Dev nD) : wo0 m c = m ((c : Thread nD τ).loc main_arg4) :=
  Memref.read_access_unit_zero (Elt F) main_arg4 (funext fun a => by fin_cases a <;> decide) (fun a => by fin_cases a <;> decide) _
/-- the second layer's first, -/
theorem wi1_eq (c : Dev nD) : wi1 m c = m ((c : Thread nD τ).loc main_arg2) :=
  Memref.read_access_unit_zero (Elt F) main_arg2 (funext fun a => by fin_cases a <;> decide) (fun a => by fin_cases a <;> decide) _
/-- its second, -/
theorem wo1_eq (c : Dev nD) : wo1 m c = m ((c : Thread nD τ).loc main_arg5) :=
  Memref.read_access_unit_zero (Elt F) main_arg5 (funext fun a => by fin_cases a <;> decide) (fun a => by fin_cases a <;> decide) _
/-- the third layer's first, -/
theorem wi2_eq (c : Dev nD) : wi2 m c = m ((c : Thread nD τ).loc main_arg3) :=
  Memref.read_access_unit_zero (Elt F) main_arg3 (funext fun a => by fin_cases a <;> decide) (fun a => by fin_cases a <;> decide) _
/-- and its second; -/
theorem wo2_eq (c : Dev nD) : wo2 m c = m ((c : Thread nD τ).loc main_arg6) :=
  Memref.read_access_unit_zero (Elt F) main_arg6 (funext fun a => by fin_cases a <;> decide) (fun a => by fin_cases a <;> decide) _

omit [FloatOps F] in
/-- and the result's block read is the result's array. -/
theorem read_out (f : main_v1.ty.Contents (Elt F)) : (win0_7.blk (0 : Fin 1)).view.read (Elt F) f = f :=
  Memref.read_access_unit_zero (Elt F) main_v1 (funext fun a => by fin_cases a <;> decide) (fun a => by fin_cases a <;> decide) f

/-- Every weakly fair execution terminates with every argument array unchanged and every counter at zero. -/
theorem run_frame :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs _ _).mono (fun _ h => ⟨fun c => ⟨(h.1 c (0 : Fin 8)).trans (finalA_in m ρ c (0 : Fin 8) rfl),
      (h.1 c (1 : Fin 8)).trans (finalA_in m ρ c (1 : Fin 8) rfl), (h.1 c (3 : Fin 8)).trans (finalA_in m ρ c (3 : Fin 8) rfl),
      (h.1 c (5 : Fin 8)).trans (finalA_in m ρ c (5 : Fin 8) rfl), (h.1 c (2 : Fin 8)).trans (finalA_in m ρ c (2 : Fin 8) rfl),
      (h.1 c (4 : Fin 8)).trans (finalA_in m ρ c (4 : Fin 8) rfl), (h.1 c (6 : Fin 8)).trans (finalA_in m ρ c (6 : Fin 8) rfl)⟩, h.2⟩)
    (run_main m ρ)

end

/-! ## The claims -/

/-- The two printed programs' kernel tables are one table, -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg _ ?_
  funext ℓ x
  match ℓ, x with
  | ⟨0, _⟩, (t, s) => rfl

/-- and so are their tables of all bodies. -/
theorem defs_eq : @Cert.Kernel.defs Bits _ Cert.Kernel.Gen.facts = @Cert.KernelIdeal.defs Bits _ Cert.KernelIdeal.Gen.facts := by
  unfold Cert.Kernel.defs Cert.KernelIdeal.defs
  exact congrArg (Pipeline.defs (Cert.KernelIdeal.pcfgs (F := Bits))) defs₀_eq

/-- The kernel as printed: `run_frame` at the machine's own floats, the two programs having one text. -/
theorem frame_kernel : Cert.quiescent_Kernel := by
  intro m ρ _
  rw [defs_eq]
  exact run_frame (F := Bits) m ρ

/-- The kernel over the extended reals. -/
theorem frame_kernelIdeal : Cert.quiescent_KernelIdeal := fun m ρ _ => run_frame (F := Ideal) m ρ

/-- The reference over the extended reals. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, from blocks of the reference's arguments, every device ends holding its column block of the
    reference's result, and both programs leave their arguments as they were. -/
theorem algebraic : Cert.algebraic_KernelIdeal_ReferenceIdeal := by
  intro m ρ m' ρ' _ h
  refine ⟨layer (layer (layer (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg4)))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg5)))
      (m' (((0 : Dev Cert.ReferenceIdeal.nD).tc : Thread _ Cert.ReferenceIdeal.τ).loc Cert.ReferenceIdeal.main_arg3))
      (m' (((0 : Dev Cert.ReferenceIdeal.nD).tc : Thread _ Cert.ReferenceIdeal.τ).loc Cert.ReferenceIdeal.main_arg6)), ?_, ?_⟩
  · refine (θ_run defs _ _).mono (fun _ hr c => ⟨(hr.1 c (7 : Fin 8)).trans ?_,
      (hr.1 c (0 : Fin 8)).trans (finalA_in m ρ c (0 : Fin 8) rfl),
      (hr.1 c (1 : Fin 8)).trans (finalA_in m ρ c (1 : Fin 8) rfl), (hr.1 c (3 : Fin 8)).trans (finalA_in m ρ c (3 : Fin 8) rfl),
      (hr.1 c (5 : Fin 8)).trans (finalA_in m ρ c (5 : Fin 8) rfl), (hr.1 c (2 : Fin 8)).trans (finalA_in m ρ c (2 : Fin 8) rfl),
      (hr.1 c (4 : Fin 8)).trans (finalA_in m ρ c (4 : Fin 8) rfl), (hr.1 c (6 : Fin 8)).trans (finalA_in m ρ c (6 : Fin 8) rfl)⟩)
      (run_main (F := Ideal) m ρ)
    refine (read_out _).symm.trans ((finalA_out m ρ c).trans (outAt_eq _ _ _ _ _ _ _ m ?_ ?_ ?_ ?_ ?_ ?_ ?_ c)) <;> intro d
    · exact (xin_eq m d).trans (h d).1
    · exact (wi0_eq m d).trans (h d).2.1
    · exact (wi1_eq m d).trans (h d).2.2.1
    · exact (wi2_eq m d).trans (h d).2.2.2.1
    · exact (wo0_eq m d).trans (h d).2.2.2.2.1
    · exact (wo1_eq m d).trans (h d).2.2.2.2.2.1
    · exact (wo2_eq m d).trans (h d).2.2.2.2.2.2
  · exact (θ_run Cert.ReferenceIdeal.defs _ _).mono (fun _ hr => hr 0) (Cert.ReferenceIdeal.Value.run (F := Ideal) m' ρ')

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
